-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_routed_KernelIdeal [hPre_finite_and_routed_KernelIdeal : Cert.Pre_finite_and_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_routed_ReferenceIdeal [hPre_finite_and_routed_ReferenceIdeal : Cert.Pre_finite_and_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_routed_KernelIdeal [hKernelIdeal : Cert.KernelIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_routed_ReferenceIdeal [hReferenceIdeal : Cert.ReferenceIdeal.Facts] [hPre_finite_and_routed_ReferenceIdeal : Cert.Pre_finite_and_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_routed_KernelIdeal [hKernelIdeal : Cert.KernelIdeal.Facts] [hReferenceIdeal : Cert.ReferenceIdeal.Facts] [hPre_finite_and_routed_KernelIdeal : Cert.Pre_finite_and_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_routed_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 2]⟩ ⟨2, ![8192, 2]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![8192, 256]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_routed_KernelIdeal : Cert.Pre_finite_and_routed_KernelIdeal.Facts) (hPre_finite_and_routed_ReferenceIdeal : Cert.Pre_finite_and_routed_ReferenceIdeal.Facts),
    quiescent_Kernel (hKernel := hKernel)
    ∧ quiescent_KernelIdeal (hKernelIdeal := hKernelIdeal)
    ∧ quiescent_KernelIdeal_pre_finite_and_routed_KernelIdeal (hKernelIdeal := hKernelIdeal) (hPre_finite_and_routed_KernelIdeal := hPre_finite_and_routed_KernelIdeal)
    ∧ quiescent_ReferenceIdeal (hReferenceIdeal := hReferenceIdeal)
    ∧ quiescent_ReferenceIdeal_pre_finite_and_routed_ReferenceIdeal (hReferenceIdeal := hReferenceIdeal) (hPre_finite_and_routed_ReferenceIdeal := hPre_finite_and_routed_ReferenceIdeal)
    ∧ preserves_Kernel_KernelIdeal
    ∧ algebraic_KernelIdeal_ReferenceIdeal_pre_finite_and_routed_KernelIdeal (hKernelIdeal := hKernelIdeal) (hReferenceIdeal := hReferenceIdeal) (hPre_finite_and_routed_KernelIdeal := hPre_finite_and_routed_KernelIdeal)
-- ==== Pre_finite_and_routed_KernelIdeal.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S256x128 .bf16) (main_arg1 : FVec F S128x64 .bf16) (main_arg2 : IVec S256x2 32) (main_arg3 : FVec F S2x128x256 .bf16) : IVec S_ 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x64 .bf16 := Host.absf main_arg1
  let main_cst_0 : FVec F S_ .bf16 := constant S_ .bf16 0x7F80#16
  let main_v5 : FVec F S128x64 .bf16 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_c_2 : IVec S_ 32 := constantI S_ 32 0#32
  let main_v9 : IVec S256x2 32 := broadcastInDim S256x2 ![] bcast_S_S256x2 main_c_2
  let main_v10 : IVec S256x2 1 := cmpi .sge main_arg2 main_v9
  let main_c_3 : IVec S_ 32 := constantI S_ 32 64#32
  let main_v11 : IVec S256x2 32 := broadcastInDim S256x2 ![] bcast_S_S256x2 main_c_3
  let main_v12 : IVec S256x2 1 := cmpi .slt main_arg2 main_v11
  let main_v13 : IVec S256x2 1 := andi main_v10 main_v12
  let main_c_4 : IVec S_ 1 := constantI S_ 1 1#1
  let main_v14 : IVec S_ 1 := (fun x v => Host.reduce IntOp.andi x v reducesTo_S256x2_S_d0_1 h_S_) main_v13 main_c_4
  let main_v15 : IVec S_ 1 := andi main_v8 main_v14
  main_v15
-- ==== Pre_finite_and_routed_ReferenceIdeal.lean ====
abbrev S8192x128 : Shape := ⟨2, ![8192, 128]⟩
abbrev S128x64 : Shape := ⟨2, ![128, 64]⟩
abbrev S8192x2 : Shape := ⟨2, ![8192, 2]⟩
abbrev S64x128x256 : Shape := ⟨3, ![64, 128, 256]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S8192x2 : S_.BroadcastsInDim S8192x2 (![] : Fin 0 → Fin S8192x2.rank)
  reducesTo_S8192x2_S_d0_1 : S8192x2.ReducesTo [0, 1] S_

variable [Facts]

def fn {F : FTy → Type} [FloatOps F] (main_arg0 : FVec F S8192x128 .bf16) (main_arg1 : FVec F S128x64 .bf16) (main_arg2 : IVec S8192x2 32) (main_arg3 : FVec F S64x128x256 .bf16) : IVec S_ 1 :=
  let main_v0 : FVec F S8192x128 .bf16 := Host.absf main_arg0
  let main_cst : FVec F S_ .bf16 := constant S_ .bf16 0x7F80#16
  let main_v1 : FVec F S8192x128 .bf16 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x64 .bf16 := Host.absf main_arg1
  let main_cst_0 : FVec F S_ .bf16 := constant S_ .bf16 0x7F80#16
  let main_v5 : FVec F S128x64 .bf16 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_c_2 : IVec S_ 32 := constantI S_ 32 0#32
  let main_v9 : IVec S8192x2 32 := broadcastInDim S8192x2 ![] bcast_S_S8192x2 main_c_2
  let main_v10 : IVec S8192x2 1 := cmpi .sge main_arg2 main_v9
  let main_c_3 : IVec S_ 32 := constantI S_ 32 64#32
  let main_v11 : IVec S8192x2 32 := broadcastInDim S8192x2 ![] bcast_S_S8192x2 main_c_3
  let main_v12 : IVec S8192x2 1 := cmpi .slt main_arg2 main_v11
  let main_v13 : IVec S8192x2 1 := andi main_v10 main_v12
  let main_c_4 : IVec S_ 1 := constantI S_ 1 1#1
  let main_v14 : IVec S_ 1 := (fun x v => Host.reduce IntOp.andi x v reducesTo_S8192x2_S_d0_1 h_S_) main_v13 main_c_4
  let main_v15 : IVec S_ 1 := andi main_v8 main_v14
  main_v15
-- ==== Kernel.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S256x256 : Shape := ⟨2, ![256, 256]⟩
abbrev S8192x256 : Shape := ⟨2, ![8192, 256]⟩
abbrev S256x8192 : Shape := ⟨2, ![256, 8192]⟩
abbrev S32 : Shape := ⟨1, ![32]⟩
abbrev S_ : Shape := ⟨0, ![]⟩
abbrev S256x64 : Shape := ⟨2, ![256, 64]⟩
abbrev S256 : Shape := ⟨1, ![256]⟩
abbrev S256x1 : Shape := ⟨2, ![256, 1]⟩
abbrev S1 : Shape := ⟨1, ![1]⟩
abbrev S256x2048 : Shape := ⟨2, ![256, 2048]⟩
abbrev S2048x256 : Shape := ⟨2, ![2048, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x2, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S128x64, .bf16⟩
  | .local _ .vmem, ⟨2, _⟩ => ⟨S256x2, .i32⟩
  | .local _ .vmem, ⟨3, _⟩ => ⟨S2x128x256, .bf16⟩
  | .local _ .vmem, ⟨4, _⟩ => ⟨S256x256, .f32⟩
  | .local _ .vmem, ⟨5, _⟩ => ⟨S8192x256, .bf16⟩
  | .local _ .vmem, ⟨6, _⟩ => ⟨S256x8192, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32_163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg9 : BitVec 32 := Scf.iv c1_i32_0 c1_i32_1 k0_t1
  let v680 : BitVec 32 := Scalar.addi v2 arg9
  let c32_i32_160 : BitVec 32 := 32#32
  let v681 : BitVec 32 := Scalar.remsi v680 c32_i32_160
  let c1_i32_162 : BitVec 32 := 1#32
  let v682 : BitVec 32 := Scalar.muli v681 c1_i32_162
  let v683 : BitVec 32 := Scalar.addi c0_i32_163 v682
  v683.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v40 : BitVec 32 := Scalar.muli v2 c256_i32
  let v41 : Index := Scalar.indexCast v40
  let c0_18 : Index := 0#32
  ![v41.toNat, 0]
@[reducible] def k0_t2_loop : Scf.Loop 32 :=
  let c1_i32_19 : BitVec 32 := 1#32
  let c31_i32_20 : BitVec 32 := 31#32
  let v45 : BitVec 32 := Scalar.addi c1_i32_19 c31_i32_20
  let c1_i32_21 : BitVec 32 := 1#32
  ⟨c1_i32_19, v45, c1_i32_21⟩
def k0_off2 (d0 : Dev nD) (k0_t2 : Fin k0_t2_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_19 : BitVec 32 := 1#32
  let c1_i32_21 : BitVec 32 := 1#32
  let arg9 : BitVec 32 := Scf.iv c1_i32_19 c1_i32_21 k0_t2
  let v680 : BitVec 32 := Scalar.addi v2 arg9
  let c32_i32_160 : BitVec 32 := 32#32
  let v681 : BitVec 32 := Scalar.remsi v680 c32_i32_160
  ![v681.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_162 : BitVec 32 := 256#32
  let v683 : BitVec 32 := Scalar.muli v2 c256_i32_162
  let c0_i32_165 : BitVec 32 := 0#32
  ![v683.toNat, 0]
def k0_dev2 (d0 : Dev nD) (k0_t2 : Fin k0_t2_loop.trips) : Nat :=
  let c0_i32_164 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_19 : BitVec 32 := 1#32
  let c1_i32_21 : BitVec 32 := 1#32
  let arg9 : BitVec 32 := Scf.iv c1_i32_19 c1_i32_21 k0_t2
  let v680 : BitVec 32 := Scalar.addi v2 arg9
  let c32_i32_160 : BitVec 32 := 32#32
  let v681 : BitVec 32 := Scalar.remsi v680 c32_i32_160
  let c1_i32_163 : BitVec 32 := 1#32
  let v684 : BitVec 32 := Scalar.muli v681 c1_i32_163
  let v685 : BitVec 32 := Scalar.addi c0_i32_164 v684
  v685.toNat
@[reducible] def k0_t3_loop : Scf.Loop 32 :=
  let c1_i32_156 : BitVec 32 := 1#32
  let c31_i32_157 : BitVec 32 := 31#32
  let v679 : BitVec 32 := Scalar.addi c1_i32_156 c31_i32_157
  let c1_i32_158 : BitVec 32 := 1#32
  ⟨c1_i32_156, v679, c1_i32_158⟩
def k0_off5 (d0 : Dev nD) (k0_t3 : Fin k0_t3_loop.trips) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_156 : BitVec 32 := 1#32
  let c1_i32_158 : BitVec 32 := 1#32
  let arg9 : BitVec 32 := Scf.iv c1_i32_156 c1_i32_158 k0_t3
  let v680 : BitVec 32 := Scalar.addi v2 arg9
  let c32_i32_160 : BitVec 32 := 32#32
  let v681 : BitVec 32 := Scalar.remsi v680 c32_i32_160
  ![v681.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32_161 : BitVec 32 := 256#32
  let v682 : BitVec 32 := Scalar.muli v2 c256_i32_161
  let c0_i32_164 : BitVec 32 := 0#32
  ![v682.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x128 : Shape := ⟨2, ![8192, 128]⟩
abbrev S128x64 : Shape := ⟨2, ![128, 64]⟩
abbrev S8192x2 : Shape := ⟨2, ![8192, 2]⟩
abbrev S64x128x256 : Shape := ⟨3, ![64, 128, 256]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x2x1 : Shape := ⟨3, ![8192, 2, 1]⟩
abbrev S1 : Shape := ⟨1, ![1]⟩
abbrev S1x1x1 : Shape := ⟨3, ![1, 1, 1]⟩
abbrev S8192x128x256 : Shape := ⟨3, ![8192, 128, 256]⟩
abbrev S8192x256 : Shape := ⟨2, ![8192, 256]⟩

abbrev nBuf : Space → Nat
  | .hbm => 75
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S128x64, .bf16⟩
  | .hbm, ⟨2, _⟩ => ⟨S8192x2, .i32⟩
  | .hbm, ⟨3, _⟩ => ⟨S64x128x256, .bf16⟩
  | .hbm, ⟨4, _⟩ => ⟨S8192x128, .f32⟩
  | .hbm, ⟨5, _⟩ => ⟨S64x128x256, .f32⟩
  | .hbm, ⟨6, _⟩ => ⟨S128x64, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S_, .i32⟩
  | .hbm, ⟨20, _⟩ => ⟨S8192x2, .i32⟩
  | .hbm, ⟨21, _⟩ => ⟨S8192x2, .i1⟩
  | .hbm, ⟨22, _⟩ => ⟨S_, .i32⟩
  | .hbm, ⟨23, _⟩ => ⟨S8192x2, .i32⟩
  | .hbm, ⟨24, _⟩ => ⟨S8192x2, .i32⟩
  | .hbm, ⟨25, _⟩ => ⟨S8192x2, .i32⟩
  | .hbm, ⟨26, _⟩ => ⟨S8192x2x1, .i32⟩
  | .hbm, ⟨27, _⟩ => ⟨S1, .i32⟩
  | .hbm, ⟨28, _⟩ => ⟨S_, .i32⟩
  | .hbm, ⟨29, _⟩ => ⟨S8192x2x1, .i32⟩
  | .hbm, ⟨30, _⟩ => ⟨S8192x2x1, .i1⟩
  | .hbm, ⟨31, _⟩ => ⟨S1x1x1, .i32⟩
  | .hbm, ⟨32, _⟩ => ⟨S8192x2x1, .i32⟩
  | .hbm, ⟨33, _⟩ => ⟨S8192x2x1, .i1⟩
  | .hbm, ⟨34, _⟩ => ⟨S8192x2x1, .i1⟩
  | .hbm, ⟨35, _⟩ => ⟨S_, .i1⟩
  | .hbm, ⟨36, _⟩ => ⟨S8192x2, .i1⟩
  | .hbm, ⟨37, _⟩ => ⟨S8192x2, .f32⟩
  | .hbm, ⟨38, _⟩ => ⟨S_, .f32⟩
  | .hbm, ⟨39, _⟩ => ⟨S8192x2, .f32⟩
  | .hbm, ⟨40, _⟩ => ⟨S8192x2, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i32⟩
  | .hbm, ⟨52, _⟩ => ⟨S8192, .i32⟩
  | .hbm, ⟨53, _⟩ => ⟨S8192x1, .i32⟩
  | .hbm, ⟨54, _⟩ => ⟨S8192x128x256, .f32⟩
  | .hbm, ⟨55, _⟩ => ⟨S8192x256, .f32⟩
  | .hbm, ⟨56, _⟩ => ⟨S8192x1, .i32⟩
  | .hbm, ⟨57, _⟩ => ⟨S8192, .i32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S8192x1, .i32⟩
  | .hbm, ⟨66, _⟩ => ⟨S8192x128x256, .f32⟩
  | .hbm, ⟨67, _⟩ => ⟨S8192x256, .f32⟩
  | .hbm, ⟨68, _⟩ => ⟨S8192x1, .f32⟩
  | .hbm, ⟨69, _⟩ => ⟨S8192x256, .f32⟩
  | .hbm, ⟨70, _⟩ => ⟨S8192x256, .f32⟩
  | .hbm, ⟨71, _⟩ => ⟨S8192x1, .f32⟩
  | .hbm, ⟨72, _⟩ => ⟨S8192x256, .f32⟩
  | .hbm, ⟨73, _⟩ => ⟨S8192x256, .f32⟩
  | .hbm, ⟨74, _⟩ => ⟨S8192x256, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c : Ref sig .tc := ⟨.hbm, 46, rfl⟩
abbrev main_v19 : Ref sig .tc := ⟨.hbm, 47, rfl⟩
abbrev main_v20 : Ref sig .tc := ⟨.hbm, 48, rfl⟩
abbrev main_c_1 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_2 : Ref sig .tc := ⟨.hbm, 58, rfl⟩
abbrev main_v29 : Ref sig .tc := ⟨.hbm, 59, rfl⟩
abbrev main_v30 : Ref sig .tc := ⟨.hbm, 60, rfl⟩
abbrev main_c_3 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩

abbrev nD : Nat := 1
abbrev τ : Topo := Topo.v7x

variable {F : FTy → Type} [FloatOps F]
-- ==== Proof.Sched.lean ====
/-
The protocol of the two-expert exchange, in the rounds library's terms.

Thirty-two devices, each holding two experts' weights as one 256 x 256 chunk.  A device

  1. signals the runtime's barrier semaphore of every OTHER device, handing it the slot of its own exchange buffer
     that the other device is to fill;
  2. waits for thirty-one units on its own barrier semaphore, and so holds, on every other device, the slot
     with its own number;
  3. stores its own chunk in its own slot of its own buffer and sends it to the same slot of every other device, the
     send semaphore numbered by the receiver, the receive semaphore by the sender;
  4. waits on each receive semaphore before reading the slot, and last on each send semaphore.

Cells: per device one barrier cell, and per device and slot one send and one receive cell.  The duties are named by
devices: a barrier cell has one duty per other device, a send or receive cell of another device's slot one, and the
two cells of the device's own slot none at all.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueIdxCore
public import Idealize.ShloMosaic.Lib.Ring
public import Idealize.ShloMosaic.Lib.Tactic

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)
open Idealize.ShloMosaic.Pipeline (Dat Cfg Window BodyObligation cellOf)

variable {F : FTy → Type} [FloatOps F]

/-! ## The resource algebra: the pipeline library's copy and the exchange's, duties named by devices -/

abbrev UX : Type := URounds (GSem nD τ sig) (Dev nD)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The semaphores and the cells -/

/-- The runtime's barrier semaphore of collective id 0. -/
abbrev barS : Sem sig := (SemArray.scalar (sig.barrier 0 rfl) : Sems sig S_).sem

/-- The send semaphore numbered `o`, and the receive semaphore numbered `o`. -/
def sSem (o : Fin 32) : DmaSem sig := ⟨5 + o.val, by have := o.isLt; show 5 + o.val < 69; omega⟩
def rSem (o : Fin 32) : DmaSem sig := ⟨37 + o.val, by have := o.isLt; show 37 + o.val < 69; omega⟩

/-- The kernel's own (scoped) semaphores: send (`false`) and receive (`true`), by slot. -/
def osem (k : Bool × Fin 32) : SemLoc sig := if k.1 then .dma (rSem k.2) else .dma (sSem k.2)

abbrev barCell (c : Dev nD) : GSem nD τ sig := ((c : Thread nD τ), .reg barS)
abbrev sendCell (c : Dev nD) (o : Fin 32) : GSem nD τ sig := ((c : Thread nD τ), .dma (sSem o))
abbrev recvCell (c : Dev nD) (o : Fin 32) : GSem nD τ sig := ((c : Thread nD τ), .dma (rSem o))

/-- A semaphore picked by the kernel out of the send array at offset `o` is the one numbered `o`; -/
theorem send_at {off : Fin 1 → Nat} (h : ∀ a, off a + S1.size a ≤ S32.size a) (o : Fin 32) (ho : off = ![o.val]) :
    ((cc0_scratch2.slice (Rect.unit (s := S32) off S1.size h)).squeeze S_ squeezes_S1_S_).sem = sSem o := by
  subst ho; revert h; revert o; decide

/-- likewise of the receive array. -/
theorem recv_at {off : Fin 1 → Nat} (h : ∀ a, off a + S1.size a ≤ S32.size a) (o : Fin 32) (ho : off = ![o.val]) :
    ((cc0_scratch3.slice (Rect.unit (s := S32) off S1.size h)).squeeze S_ squeezes_S1_S_).sem = rSem o := by
  subst ho; revert h; revert o; decide

/-! ## The slots of the exchange buffer -/

abbrev xM : Memref sig .tc .vmem S8192x256 .bf16 := Memref.whole cc0_scratch0

theorem slot_inb (o : Fin 32) : ∀ a, (![256 * o.val, 0] : Fin 2 → Nat) a + S256x256.size a ≤ S8192x256.size a := by
  revert o; decide

/-- Slot `o`: the 256 rows from row `256 o` on. -/
abbrev slotR (o : Fin 32) : Rect S8192x256 := Rect.unit (s := S8192x256) ![256 * o.val, 0] S256x256.size (slot_inb o)
abbrev slotM (o : Fin 32) : Memref sig .tc .vmem S256x256 .bf16 := xM.slice (slotR o) (fun _ => rfl)

/-- What a transfer of one slot adds to a semaphore. -/
def N : ℕ := (slotM 0).view.dmaCredit
theorem N_pos : 0 < N := View.dmaCredit_pos _ (by decide)
theorem credit_slot (o : Fin 32) : (slotM o).view.dmaCredit = N := rfl

/-! ## Contents -/

/-- Device `c`'s two experts' weights, as staged. -/
def wstg (c : Dev nD) : (cc0_stg3_0 : Ref sig .tc).ty.Contents (Elt F) :=
  (win0_3.blk (0 : Fin 1)).view.read (Elt F) ((s₀ m ρ).mem ((c : Thread nD τ).loc main_arg3))

/-- The index inside a slot of row `r`, column `h` of the buffer. -/
def inSlot (i : S8192x256.Idx) : S256x256.Idx := ix2 (n0 := 256) (n1 := 256) ⟨(i 0).val % 256, Nat.mod_lt _ (by decide)⟩ (i 1)

/-- The device whose chunk row `r` of the buffer belongs to. -/
def ownerOf (i : S8192x256.Idx) : Dev nD := ⟨(i 0).val / 256, by have h : (i 0).val < 8192 := (i 0).isLt; show _ < 32; omega⟩

/-- The filled exchange buffer, the same on every device: row `r` is row `r % 256` of device `r / 256`'s chunk. -/
def commAll : (cc0_scratch0 : Ref sig .tc).ty.Contents (Elt F) := fun i => k0_pay6 (wstg m ρ (ownerOf i)) (inSlot i)

/-- The filled buffer under slot `o`'s indices is device `o`'s chunk. -/
theorem commAll_emb (o : Fin 32) (j : S256x256.Idx) : commAll m ρ ((slotR o).emb j) = k0_pay6 (wstg m ρ o) j := by
  have h0 : (j 0).val < 256 := (j 0).isLt
  have h1 : (((slotR o).emb j) 0 : Nat) = 256 * o.val + (j 0).val := by rw [Rect.emb_apply]; simp [slotR, Rect.unit]
  have h2 : (((slotR o).emb j) 1 : Nat) = (j 1).val := by rw [Rect.emb_apply]; simp [slotR, Rect.unit]
  have ho : ownerOf ((slotR o).emb j) = o := Fin.ext (by show _ / 256 = _; rw [h1]; omega)
  have hj : inSlot ((slotR o).emb j) = j := by
    rw [eq_ix2 (n0 := 256) (n1 := 256) j]; unfold inSlot
    congr 1
    · exact Fin.ext (by show _ % 256 = _; rw [← eq_ix2 (n0 := 256) (n1 := 256) j, h1]; omega)
    · exact Fin.ext (by rw [← eq_ix2 (n0 := 256) (n1 := 256) j]; exact h2)
  unfold commAll; rw [ho, hj]

/-! ## Ownership of a slot -/

/-- Share `q` of slot `o` of device `c`'s exchange buffer, holding what `f` holds there. -/
def slotPts (c : Dev nD) (o : Fin 32) (q : PosShare TreeShare) (f : (cc0_scratch0 : Ref sig .tc).ty.Contents (Elt F)) : sProp 𝕄 :=
  (slotM o).view.loc (c : Thread nD τ) ↦[(slotM o).view.set]{q} f

omit [FloatOps F] in
instance slotPts_storable (c : Dev nD) (o) (q) (f) : BI.Storable (upEmb : UEmb _ 𝕄) (slotPts (F := F) c o q f) := by
  unfold slotPts; infer_instance

/-- The share of its own slot device `c` lends to the transfer to device `d`: the right half of the whole is dealt to
    the thirty-one transfers, the left half stays for the loads. -/
def lent (c d : Dev nD) : PosShare TreeShare := Transfers.dealOf fullShare.right (Finset.univ.erase c) d

/-! ## The schedule -/

/-- The duties of round 0 of device `c`'s cell on a semaphore. -/
def dutiesOf (c : Dev nD) : SemLoc sig → Finset (Dev nD)
  | .reg _ => Finset.univ.erase c
  | .dma q => if q.val < 5 then ∅ else if (q.val - 5) % 32 = c.val then ∅ else {c}

/-- What the payer of a duty hands over. -/
def payOf (c : Dev nD) : SemLoc sig → Dev nD → sProp 𝕄
  | .reg _, d => iprop(∃ f, slotPts d c fullShare f)
  | .dma q, _ =>
    if q.val < 37 then slotPts c c (lent c ⟨(q.val - 5) % 32, Nat.mod_lt _ (by decide)⟩) (commAll m ρ)
    else slotPts c ⟨(q.val - 5) % 32, Nat.mod_lt _ (by decide)⟩ fullShare (commAll m ρ)

/-- Round 0 only: a unit per duty on a barrier cell, a slot's credit on a send or receive cell. -/
def moeRd : Rounds.Schedule (GSem nD τ sig) (Dev nD) 𝕄 where
  duties g r := if r = 0 ∧ g.1.2 = .tc then dutiesOf g.1.1 g.2 else ∅
  unitless _ := False
  amount g _ _ := if g.2 = .reg barS then 1 else N
  payload g _ d := payOf m ρ g.1.1 g.2 d
  amount_pos g _ _ _ := by
    by_cases h : g.2 = .reg barS
    · rw [if_pos h]; exact Nat.one_pos
    · rw [if_neg h]; exact N_pos

instance moeRd_payload_storable (g : GSem nD τ sig) (r : ℕ) (d : Dev nD) :
    BI.Storable (upEmb : UEmb _ 𝕄) ((moeRd (F := F) m ρ).payload g r d) := by
  show BI.Storable upEmb (payOf m ρ g.1.1 g.2 d)
  rcases g with ⟨t, _ | q⟩
  · unfold payOf; infer_instance
  · unfold payOf; dsimp only; split <;> infer_instance

theorem sSem_ne_bar (o : Fin 32) : (SemLoc.dma (sSem o) : SemLoc sig) ≠ .reg barS := fun h => by cases h
theorem rSem_ne_bar (o : Fin 32) : (SemLoc.dma (rSem o) : SemLoc sig) ≠ .reg barS := fun h => by cases h
theorem sSem_inj {o o' : Fin 32} (h : sSem o = sSem o') : o = o' := by
  have := congrArg Fin.val h; simp only [sSem] at this; exact Fin.ext (by omega)
theorem rSem_inj {o o' : Fin 32} (h : rSem o = rSem o') : o = o' := by
  have := congrArg Fin.val h; simp only [rSem] at this; exact Fin.ext (by omega)
theorem sSem_ne_rSem (o o' : Fin 32) : sSem o ≠ rSem o' := fun h => by
  have := congrArg Fin.val h; simp only [sSem, rSem] at this; have := o.isLt; omega

section Sched
variable (c : Dev nD) (o : Fin 32)

theorem sIx : ((sSem o).val - 5) % 32 = o.val := by have := o.isLt; simp only [sSem]; omega
theorem rIx : ((rSem o).val - 5) % 32 = o.val := by have := o.isLt; simp only [rSem]; omega

omit [FloatOps F] in
theorem duties_bar : (moeRd (F := F) m ρ).duties (barCell c) 0 = Finset.univ.erase c := by
  dsimp only [moeRd]; exact if_pos ⟨rfl, rfl⟩
omit [FloatOps F] in
theorem duties_send (h : o ≠ c) : (moeRd (F := F) m ρ).duties (sendCell c o) 0 = {c} := by
  dsimp only [moeRd]; rw [if_pos ⟨rfl, rfl⟩]; show (if (sSem o).val < 5 then ∅ else if ((sSem o).val - 5) % 32 = c.val then ∅ else {c}) = _
  rw [sIx, if_neg (by simp only [sSem]; omega), if_neg fun h' => h (Fin.ext h')]
omit [FloatOps F] in
theorem duties_recv (h : o ≠ c) : (moeRd (F := F) m ρ).duties (recvCell c o) 0 = {c} := by
  dsimp only [moeRd]; rw [if_pos ⟨rfl, rfl⟩]; show (if (rSem o).val < 5 then ∅ else if ((rSem o).val - 5) % 32 = c.val then ∅ else {c}) = _
  rw [rIx, if_neg (by simp only [rSem]; omega), if_neg fun h' => h (Fin.ext h')]
omit [FloatOps F] in
/-- The two cells of a device's own slot have no duty, -/
theorem duties_send_self (r : ℕ) : (moeRd (F := F) m ρ).duties (sendCell c c) r = ∅ := by
  dsimp only [moeRd]; split
  · show (if (sSem c).val < 5 then ∅ else if ((sSem c).val - 5) % 32 = c.val then ∅ else {c}) = _
    rw [sIx, if_pos rfl]; split <;> rfl
  · rfl
omit [FloatOps F] in
theorem duties_recv_self (r : ℕ) : (moeRd (F := F) m ρ).duties (recvCell c c) r = ∅ := by
  dsimp only [moeRd]; split
  · show (if (rSem c).val < 5 then ∅ else if ((rSem c).val - 5) % 32 = c.val then ∅ else {c}) = _
    rw [rIx, if_pos rfl]; split <;> rfl
  · rfl
omit [FloatOps F] in
/-- and no cell has one after round 0. -/
theorem duties_later (g : GSem nD τ sig) : ∀ r, 1 ≤ r → (moeRd (F := F) m ρ).duties g r = ∅ :=
  fun r hr => by dsimp only [moeRd]; rw [if_neg fun h => by omega]

omit [FloatOps F] in
theorem amount_bar (d : Dev nD) : (moeRd (F := F) m ρ).amount (barCell c) 0 d = 1 := by dsimp only [moeRd]; exact if_pos rfl
omit [FloatOps F] in
theorem amount_send (d : Dev nD) : (moeRd (F := F) m ρ).amount (sendCell c o) 0 d = N := by dsimp only [moeRd]; exact if_neg (sSem_ne_bar o)
omit [FloatOps F] in
theorem amount_recv (d : Dev nD) : (moeRd (F := F) m ρ).amount (recvCell c o) 0 d = N := by dsimp only [moeRd]; exact if_neg (rSem_ne_bar o)

omit [FloatOps F] in
theorem expect_bar : (moeRd (F := F) m ρ).expect (barCell c) 0 = 31 := by
  unfold Schedule.expect Schedule.amountOf
  rw [duties_bar, Finset.sum_congr rfl fun d _ => amount_bar m ρ c d, Finset.sum_const, Finset.card_erase_of_mem (Finset.mem_univ _), Finset.card_univ,
    Fintype.card_fin, smul_eq_mul]; rfl
omit [FloatOps F] in
theorem expect_send (h : o ≠ c) : (moeRd (F := F) m ρ).expect (sendCell c o) 0 = N := by
  unfold Schedule.expect Schedule.amountOf; rw [duties_send m ρ c o h, Finset.sum_singleton, amount_send]
omit [FloatOps F] in
theorem expect_recv (h : o ≠ c) : (moeRd (F := F) m ρ).expect (recvCell c o) 0 = N := by
  unfold Schedule.expect Schedule.amountOf; rw [duties_recv m ρ c o h, Finset.sum_singleton, amount_recv]

omit [FloatOps F] in
theorem payload_bar (d : Dev nD) : (moeRd (F := F) m ρ).payload (barCell c) 0 d = iprop(∃ f, slotPts d c fullShare f) := rfl
theorem payload_send (d : Dev nD) : (moeRd (F := F) m ρ).payload (sendCell c o) 0 d = slotPts c c (lent c o) (commAll m ρ) := by
  show (if (sSem o).val < 37 then slotPts c c (lent c ⟨((sSem o).val - 5) % 32, _⟩) (commAll m ρ) else _) = _
  rw [if_pos (by have := o.isLt; simp only [sSem]; omega)]; congr 2; exact Fin.ext (sIx o)
theorem payload_recv (d : Dev nD) : (moeRd (F := F) m ρ).payload (recvCell c o) 0 d = slotPts c o fullShare (commAll m ρ) := by
  show (if (rSem o).val < 37 then _ else slotPts c ⟨((rSem o).val - 5) % 32, _⟩ fullShare (commAll m ρ)) = _
  rw [if_neg (by simp only [rSem]; omega)]; congr 1; exact Fin.ext (rIx o)

omit [FloatOps F] in
/-- The rest of the barrier cell's round, no duty taken: on every other device, the slot with this device's number. -/
theorem rest_bar : bigSep ((moeRd (F := F) m ρ).duties (barCell c) 0 \ ∅) (fun d => (moeRd (F := F) m ρ).payload (barCell c) 0 d)
    = bigSep (Finset.univ.erase c) fun d => iprop(∃ f, slotPts (F := F) d c fullShare f) := by
  rw [Finset.sdiff_empty, duties_bar]; rfl
theorem rest_send (h : o ≠ c) : bigSep ((moeRd (F := F) m ρ).duties (sendCell c o) 0 \ ∅) (fun d => (moeRd (F := F) m ρ).payload (sendCell c o) 0 d)
    = slotPts c c (lent c o) (commAll m ρ) := by
  rw [Finset.sdiff_empty, duties_send m ρ c o h, bigSep_singleton, payload_send]
theorem rest_recv (h : o ≠ c) : bigSep ((moeRd (F := F) m ρ).duties (recvCell c o) 0 \ ∅) (fun d => (moeRd (F := F) m ρ).payload (recvCell c o) 0 d)
    = slotPts c o fullShare (commAll m ρ) := by
  rw [Finset.sdiff_empty, duties_recv m ρ c o h, bigSep_singleton, payload_recv]

end Sched

/-! ## The order in which a device meets the others -/

/-- The device met at trip `k` of each loop. -/
def peer (c : Dev nD) (k : ℕ) : Dev nD := ⟨(c.val + 1 + k) % 32, Nat.mod_lt _ (by decide)⟩
/-- The trip at which device `c` meets device `d` (31, none, for itself). -/
def trip (c d : Dev nD) : ℕ := (d.val + 31 - c.val) % 32
/-- The devices not met before trip `n`; -/
def todo (c : Dev nD) (n : ℕ) : Finset (Dev nD) := Finset.univ.filter fun d => n ≤ trip c d ∧ trip c d < 31
/-- and those met. -/
def done (c : Dev nD) (n : ℕ) : Finset (Dev nD) := Finset.univ.filter fun d => trip c d < n

theorem trip_peer (c : Dev nD) {k : ℕ} (hk : k < 31) : trip c (peer c k) = k := by
  have : c.val < 32 := c.isLt; unfold trip peer; dsimp only; omega
theorem peer_of_trip (c d : Dev nD) {k : ℕ} (h : trip c d = k) : d = peer c k := by
  have : c.val < 32 := c.isLt; have : d.val < 32 := d.isLt; subst h; refine Fin.ext ?_; unfold trip peer; dsimp only; omega
theorem trip_self (c d : Dev nD) : trip c d < 31 ↔ d ≠ c := by
  have : c.val < 32 := c.isLt; have : d.val < 32 := d.isLt; rw [Ne, Fin.ext_iff]; unfold trip; omega
theorem peer_ne (c : Dev nD) {k : ℕ} (hk : k < 31) : peer c k ≠ c := (trip_self c _).1 (by rw [trip_peer c hk]; exact hk)

theorem todo_zero (c : Dev nD) : todo c 0 = Finset.univ.erase c := by
  ext d; simp only [todo, Finset.mem_filter, Finset.mem_univ, true_and, and_true, Finset.mem_erase, Nat.zero_le, trip_self]
theorem todo_last (c : Dev nD) : todo c 31 = ∅ := by
  ext d; simp only [todo, Finset.mem_filter, Finset.mem_univ, true_and, Finset.notMem_empty, iff_false]; omega
theorem peer_mem_todo (c : Dev nD) {n : ℕ} (hn : n < 31) : peer c n ∈ todo c n := by
  simp only [todo, Finset.mem_filter, Finset.mem_univ, true_and, trip_peer c hn]; omega
theorem todo_erase (c : Dev nD) {n : ℕ} (hn : n < 31) : (todo c n).erase (peer c n) = todo c (n + 1) := by
  ext d; simp only [todo, Finset.mem_filter, Finset.mem_univ, true_and, Finset.mem_erase]
  constructor
  · rintro ⟨h, h1, h2⟩; refine ⟨?_, h2⟩; by_contra h'; exact h (peer_of_trip c d (by omega))
  · rintro ⟨h1, h2⟩; refine ⟨fun h => ?_, by omega, h2⟩; rw [h, trip_peer c hn] at h1; omega
theorem done_zero (c : Dev nD) : done c 0 = ∅ := by
  ext d; simp only [done, Finset.mem_filter, Finset.mem_univ, true_and, Finset.notMem_empty, iff_false]; omega
theorem done_last (c : Dev nD) : done c 31 = Finset.univ.erase c := by
  ext d; simp only [done, Finset.mem_filter, Finset.mem_univ, true_and, and_true, Finset.mem_erase, trip_self]
theorem peer_notMem_done (c : Dev nD) {n : ℕ} (hn : n < 31) : peer c n ∉ done c n := by
  simp only [done, Finset.mem_filter, Finset.mem_univ, true_and, trip_peer c hn]; omega
theorem done_succ (c : Dev nD) {n : ℕ} (hn : n < 31) : done c (n + 1) = insert (peer c n) (done c n) := by
  ext d; simp only [done, Finset.mem_filter, Finset.mem_univ, true_and, Finset.mem_insert]
  constructor
  · intro h; rcases Nat.lt_succ_iff_lt_or_eq.1 h with h | h
    · exact .inr h
    · exact .inl (peer_of_trip c d h)
  · rintro (h | h)
    · rw [h, trip_peer c hn]; omega
    · omega

/-- The kernel's computed devices and offsets, in closed form. -/
theorem dev1_eq (c : Dev nD) (k : Fin k0_t1_loop.trips) : (⟨k0_dev1 c k, k0_dev1_lt c k⟩ : Dev nD) = peer c k.val := by
  refine Fin.ext ?_; revert c k; decide +kernel
theorem dev2_eq (c : Dev nD) (k : Fin k0_t2_loop.trips) : (⟨k0_dev2 c k, k0_dev2_lt c k⟩ : Dev nD) = peer c k.val := by
  refine Fin.ext ?_; revert c k; decide +kernel
theorem off1_eq (c : Dev nD) : k0_off1 c = ![256 * c.val, 0] := by revert c; decide +kernel
theorem off4_eq (c : Dev nD) : k0_off4 c = ![256 * c.val, 0] := by revert c; decide +kernel
theorem off6_eq (c : Dev nD) : k0_off6 c = ![256 * c.val, 0] := by revert c; decide +kernel
theorem off2_eq (c : Dev nD) (k : Fin k0_t2_loop.trips) : k0_off2 c k = ![(peer c k.val).val] := by revert c k; decide +kernel
theorem off3_eq (c : Dev nD) : k0_off3 c = ![c.val] := by revert c; decide +kernel
theorem off5_eq (c : Dev nD) (k : Fin k0_t3_loop.trips) : k0_off5 c k = ![(peer c k.val).val] := by revert c k; decide +kernel

/-! ## What each device owes at launch; the levels -/

/-- A unit to the barrier cell of every device of `S`, -/
def owesBar (S : Finset (Dev nD)) : CellTallies nD τ sig Unit := ∑ d ∈ S, tallyAt (barCell d) () 1
/-- and a slot's credit to receive cell `c` of every device of `S`. -/
def owesRecv (c : Dev nD) (S : Finset (Dev nD)) : CellTallies nD τ sig Unit := ∑ d ∈ S, tallyAt (recvCell d c) () N
def O₀ (c : Dev nD) : CellTallies nD τ sig Unit := owesRecv c (Finset.univ.erase c) + owesBar (Finset.univ.erase c)

def L (g : GSem nD τ sig) : Finset Unit := if g.1.2 = .tc then {()} else ∅
def lvOf : SemLoc sig → ℕ
  | .reg _ => 1
  | .dma q => if 37 ≤ q.val then 2 else 0
/-- Barrier cells at 1, receive cells at 2, everything else (staging, send) at 0. -/
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (o : Fin 32) : lv (recvCell c o) () = 2 := if_pos (by simp only [rSem]; omega)

theorem owesBar_pos {S : Finset (Dev nD)} {g : GSem nD τ sig} {u : Unit} (h : 0 < owesBar S g u) : ∃ d, g = barCell d := by
  unfold owesBar at h
  rw [Finset.sum_apply, Finsupp.finset_sum_apply] at h
  obtain ⟨d, -, hd⟩ := Finset.exists_ne_zero_of_sum_ne_zero h.ne'
  rw [tallyAt_apply] at hd
  by_contra hn; exact hd (if_neg fun h' => hn ⟨d, h'.1⟩)
theorem owesRecv_pos {c : Dev nD} {S : Finset (Dev nD)} {g : GSem nD τ sig} {u : Unit} (h : 0 < owesRecv c S g u) : ∃ d, g = recvCell d c := by
  unfold owesRecv at h
  rw [Finset.sum_apply, Finsupp.finset_sum_apply] at h
  obtain ⟨d, -, hd⟩ := Finset.exists_ne_zero_of_sum_ne_zero h.ne'
  rw [tallyAt_apply] at hd
  by_contra hn; exact hd (if_neg fun h' => hn ⟨d, h'.1⟩)
theorem O₀_pos {c : Dev nD} {g : GSem nD τ sig} {u : Unit} (h : 0 < O₀ c g u) : (∃ d, g = recvCell d c) ∨ ∃ d, g = barCell d := by
  unfold O₀ at h
  rw [Pi.add_apply, Finsupp.add_apply] at h
  rcases Nat.eq_zero_or_pos (owesRecv c (Finset.univ.erase c) g u) with h0 | h0
  · rw [h0, Nat.zero_add] at h; exact .inr (owesBar_pos h)
  · exact .inl (owesRecv_pos h0)

omit [FloatOps F] in
/-- A staging wait is below everything a device owes at launch, -/
theorem mayWait_stage (c : Dev nD) (q : DmaSem sig) (hq : q.val < 37) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by rw [Finset.mem_singleton.mp hp]; show lvOf (.dma q) ≤ 0; unfold lvOf; dsimp only; rw [if_neg (by omega)])
      (fun g u hg => by
        rcases O₀_pos hg with ⟨d, rfl⟩ | ⟨d, rfl⟩
        · rw [show u = () from rfl, lv_recv]; decide
        · rw [show u = () from rfl, lv_bar]; decide)
  · rw [MayWait_zero]; iintro -; iempintro

omit [FloatOps F] in
/-- and the barrier wait is below the receive credits still owed there. -/
theorem mayWait_bar (c : Dev nD) :
    (levAts L lv : sProp 𝕄) ⊢ MayWait (c : Thread nD τ) (.reg barS) () (owesRecv c (Finset.univ.erase c)) :=
  MayOwe.of_cut (L := L) (lev := lv) 1 (fun p hp => by rw [Finset.mem_singleton.mp hp, L_tc]; exact Finset.mem_singleton_self _)
    (fun g u hg => by obtain ⟨d, rfl⟩ := owesRecv_pos hg; exact Finset.mem_singleton_self _)
    (fun p hp => by rw [Finset.mem_singleton.mp hp]; exact Nat.le_refl 1)
    (fun g u hg => by obtain ⟨d, rfl⟩ := owesRecv_pos hg; rw [show u = () from rfl, lv_recv]; decide)

end Cert.MoeProof

end
-- ==== Proof.Slots.lean ====
/-
The exchange buffer as its thirty-two slots: which elements a slot has, that the slots tile the buffer, what a store of
a device's own chunk and the landing of another's leave, and the halves and lent parts of a slot put together again.
-/
module

public import proofs.«01_k».proof.Proof.Sched

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig Unit (Elt F) ℕ UU ℕ

variable (m : (ℓ : Loc nD τ sig) → Buf (Elt F) ℓ) (ρ : Dev nD → PrngReg)

/-! ## Which elements a slot has -/

/-- The elements of slot `o`, as indices of the buffer. -/
abbrev slotS (o : Fin 32) : Finset S8192x256.Idx := (slotM o).view.set

theorem slotS_eq (o : Fin 32) : slotS o = (slotR o).set := View.set_slice_whole cc0_scratch0 (slotR o)

/-- An element is in slot `o` just when its row is one of the slot's. -/
theorem mem_slotS {o : Fin 32} {i : S8192x256.Idx} : i ∈ slotS o ↔ (i 0).val / 256 = o.val := by
  rw [slotS_eq, Rect.mem_set_unit]
  have h1 : (i 1).val < 256 := (i 1).isLt
  constructor
  · intro h
    have h0 : 256 * o.val ≤ (i 0).val ∧ (i 0).val < 256 * o.val + 256 := h 0
    omega
  · intro h a
    fin_cases a
    · show 256 * o.val ≤ (i 0).val ∧ (i 0).val < 256 * o.val + 256
      omega
    · show 0 ≤ (i 1).val ∧ (i 1).val < 0 + 256
      omega

theorem slotS_disjoint (a b : Fin 32) (h : a ≠ b) : Disjoint (slotS a) (slotS b) :=
  Finset.disjoint_left.mpr fun i hi hj => h (Fin.ext ((mem_slotS.1 hi).symm.trans (mem_slotS.1 hj)))

theorem slotS_cover : (Finset.univ : Finset (Fin 32)).biUnion slotS = Finset.univ := by
  ext i
  simp only [Finset.mem_biUnion, Finset.mem_univ, true_and, iff_true]
  have h : (i 0).val < 8192 := (i 0).isLt
  exact ⟨⟨(i 0).val / 256, by omega⟩, mem_slotS.2 rfl⟩

omit [FloatOps F] in
/-- The whole buffer is its slots. -/
theorem slots_whole (c : Dev nD) (q : PosShare TreeShare) (f : (cc0_scratch0 : Ref sig .tc).ty.Contents (Elt F)) :
    (((c : Thread nD τ).loc cc0_scratch0) ↦{q} f : sProp 𝕄) = bigSep Finset.univ fun o : Fin 32 => slotPts c o q f :=
  Ring.pointsTo_blocks (ℓ := ((c : Thread nD τ).loc cc0_scratch0)) slotS slotS_disjoint slotS_cover f

/-! ## What a slot holds after it is written -/

/-- Every element of a slot is under one of the slot's own indices. -/
theorem slot_emb {o : Fin 32} {i : S8192x256.Idx} (hi : i ∈ slotS o) : ∃ j : S256x256.Idx, (slotR o).emb j = i := by
  have hi' : i ∈ (slotM o).view.set := hi
  rw [View.set, Finset.mem_map] at hi'
  obtain ⟨j, -, hj⟩ := hi'
  exact ⟨j, hj⟩

/-- Slot `o`, written with device `o`'s chunk, holds what the filled buffer holds there; -/
theorem slot_stored (c : Dev nD) (o : Fin 32) (q : PosShare TreeShare) (f : (cc0_scratch0 : Ref sig .tc).ty.Contents (Elt F)) :
    slotPts (F := F) c o q ((xM.access (slotR o) : View sig .tc _ _ _).write (Elt F) f (k0_pay6 (wstg m ρ o)) Finset.univ)
      = slotPts c o q (commAll m ρ) := by
  unfold slotPts
  refine pointsTo_congr fun i hi => ?_
  obtain ⟨j, rfl⟩ := slot_emb hi
  rw [commAll_emb]
  exact View.write_emb_of_mem (v := (xM.access (slotR o) : View sig .tc _ _ _)) (Val := Elt F) f _ (Finset.mem_univ j)

/-- likewise when the filled buffer's slot of the same number lands in it. -/
theorem slot_landed (c : Dev nD) (o : Fin 32) (q : PosShare TreeShare) (f : (cc0_scratch0 : Ref sig .tc).ty.Contents (Elt F)) :
    slotPts (F := F) c o q ((slotM o).view.write (Elt F) f ((slotM o).view.read (Elt F) (commAll m ρ)) Finset.univ)
      = slotPts c o q (commAll m ρ) := by
  unfold slotPts
  refine pointsTo_congr fun i hi => ?_
  obtain ⟨j, rfl⟩ := slot_emb hi
  exact View.write_emb_of_mem (v := (slotM o).view) (Val := Elt F) f _ (Finset.mem_univ j)

/-! ## Shares of a slot -/

omit [FloatOps F] in
/-- A slot held whole is its two halves. -/
theorem slot_halves (c : Dev nD) (o : Fin 32) (f : (cc0_scratch0 : Ref sig .tc).ty.Contents (Elt F)) :
    slotPts (F := F) c o fullShare f = iprop(slotPts c o fullShare.left f ∗ slotPts c o fullShare.right f) := by
  unfold slotPts
  exact BI.Entails.antisymm (pointsTo_share (PosShare.mem_left_op_right _)).1 (pointsTo_share (PosShare.mem_left_op_right _)).2

omit [FloatOps F] in
/-- The right half of a device's own slot is the parts lent to its transfers. -/
theorem slot_lent (c : Dev nD) (f : (cc0_scratch0 : Ref sig .tc).ty.Contents (Elt F)) :
    slotPts (F := F) c c fullShare.right f = bigSep (Finset.univ.erase c) fun d => slotPts c c (lent c d) f := by
  unfold slotPts lent
  exact Transfers.pointsTo_deal (Finset.univ.erase c) ⟨peer c 0, Finset.mem_erase.mpr ⟨peer_ne c (by decide), Finset.mem_univ _⟩⟩ fullShare.right

/-! ## Eight slots at a time -/

/-- The slots of group `g`. -/
def grp (g : ℕ) : Finset (Fin 32) := Finset.univ.filter fun o => o.val / 8 = g
theorem mem_grp {g : ℕ} {o : Fin 32} : o ∈ grp g ↔ o.val / 8 = g := by simp [grp]

theorem grp_inb (g : Fin 4) : ∀ a, (![2048 * g.val, 0] : Fin 2 → Nat) a + S2048x256.size a ≤ S8192x256.size a := by
  revert g; decide
/-- Group `g`: the 2048 rows from row `2048 g` on. -/
abbrev grpR (g : Fin 4) : Rect S8192x256 := Rect.unit (s := S8192x256) ![2048 * g.val, 0] S2048x256.size (grp_inb g)

/-- What a load of group `g` reads of the filled buffer. -/
def wtsOf (g : Fin 4) : Vec F S2048x256 .bf16 := xM.view.readAt (Elt F) (grpR g).toLoadRect (commAll m ρ)

/-- A load of group `g` reads its eight slots only. -/
theorem grp_subset (g : Fin 4) : xM.view.setOn (grpR g).set ⊆ (grp g.val).biUnion slotS := by
  intro i hi
  have hi' : i ∈ (grpR g).set := by
    rw [View.setOn, Finset.mem_map] at hi
    obtain ⟨j, hj, rfl⟩ := hi
    exact hj
  rw [Rect.mem_set_unit] at hi'
  have h0 : 2048 * g.val ≤ (i 0).val ∧ (i 0).val < 2048 * g.val + 2048 := hi' 0
  have h : (i 0).val < 8192 := (i 0).isLt
  rw [Finset.mem_biUnion]
  exact ⟨⟨(i 0).val / 256, by omega⟩, mem_grp.2 (by show (i 0).val / 256 / 8 = _; omega), mem_slotS.2 rfl⟩

omit [FloatOps F] in
theorem grp_slots (c : Dev nD) (g : ℕ) (q : PosShare TreeShare) (f : (cc0_scratch0 : Ref sig .tc).ty.Contents (Elt F)) :
    (((c : Thread nD τ).loc cc0_scratch0) ↦[(grp g).biUnion slotS]{q} f : sProp 𝕄) = bigSep (grp g) fun o => slotPts c o q f :=
  pointsTo_biUnion (ℓ := ((c : Thread nD τ).loc cc0_scratch0)) (grp g) slotS (fun a _ b _ h => slotS_disjoint a b h)

end Cert.MoeProof

end
-- ==== Proof.Steps.lean ====
/-
The communicating stretches of one device's body, each as one rule: the loop of barrier signals, the barrier wait, the
loop of transfers, one conditional receive wait, the load of a group of eight received slots, and the loop of send
waits.
-/
module

public import proofs.«01_k».proof.Proof.Slots

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c`'s program runs to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program that has ended. -/
theorem wp_done (c : Dev nD) {α : Type} (x : α) (Q : α → sProp 𝕄) : Q x ⊢ WP c (.ret x) Q := by
  unfold WP; rw [wp_ret]
  iintro H
  imodintro; iexact H

/-! ## The cells as the launch indexes them -/

/-- A device's cells: its barrier cell, and its send and receive cell of each slot. -/
abbrev CK : Type := Unit ⊕ (Bool × Fin 32)
def csem : CK → SemLoc sig
  | .inl _ => .reg barS
  | .inr k => osem k
abbrev kcell (ck : Dev nD × CK) : GSem nD τ sig := ((ck.1 : Thread nD τ), csem ck.2)

/-- What every device knows: each cell's invariant, under the names `K` the launch allocated them at, and that each cell
    has reached round 0. -/
def records (K : Dev nD × CK → ℕ) : sProp 𝕄 :=
  iprop((bigSep Finset.univ fun ck : Dev nD × CK => cellInv ER (moeRd m ρ) (K ck) (kcell ck))
    ∗ bigSep Finset.univ fun ck : Dev nD × CK => reached ER (kcell ck) 0)

instance records_persistent (K : Dev nD × CK → ℕ) : BI.Persistent (records m ρ K) := by unfold records; infer_instance

theorem inv_of (K : Dev nD × CK → ℕ) (ck : Dev nD × CK) : records m ρ K ⊢ cellInv ER (moeRd m ρ) (K ck) (kcell ck) := by
  unfold records
  exact sep_elim_left.trans (bigSep_elim (Φ := fun ck : Dev nD × CK => (cellInv ER (moeRd m ρ) (K ck) (kcell ck) : sProp 𝕄)) (Finset.mem_univ ck))
theorem reached_of (K : Dev nD × CK → ℕ) (ck : Dev nD × CK) : records m ρ K ⊢ reached ER (kcell ck) 0 := by
  unfold records
  exact sep_elim_right.trans (bigSep_elim (Φ := fun ck : Dev nD × CK => (reached ER (kcell ck) 0 : sProp 𝕄)) (Finset.mem_univ ck))

/-- One member of a family taken out, -/
theorem take {I : Type} [DecidableEq I] {s : Finset I} {i : I} (hi : i ∈ s) (Φ : I → sProp 𝕄) :
    bigSep s Φ = iprop(Φ i ∗ bigSep (s.erase i) Φ) := bigSep_erase hi
/-- and one put in. -/
theorem put {I : Type} [DecidableEq I] {s : Finset I} {i : I} (hi : i ∉ s) (Φ : I → sProp 𝕄) :
    bigSep (insert i s) Φ = iprop(Φ i ∗ bigSep s Φ) := bigSep_insert hi

abbrev kBar (d : Dev nD) : Dev nD × CK := (d, .inl ())
abbrev kSend (d : Dev nD) (o : Fin 32) : Dev nD × CK := (d, .inr (false, o))
abbrev kRecv (d : Dev nD) (o : Fin 32) : Dev nD × CK := (d, .inr (true, o))

variable (K : Dev nD × CK → ℕ)

/-! ## The barrier signals -/

theorem owesBar_peel (c : Dev nD) {n : ℕ} (hn : n < 31) :
    owesBar (todo c n) = owesBar (todo c (n + 1)) + tallyAt (barCell (peer c n)) () 1 := by
  unfold owesBar; rw [← todo_erase c hn]; exact (Finset.sum_erase_add _ _ (peer_mem_todo c hn)).symm
theorem owesRecv_peel (c : Dev nD) {n : ℕ} (hn : n < 31) :
    owesRecv c (todo c n) = owesRecv c (todo c (n + 1)) + tallyAt (recvCell (peer c n) c) () N := by
  unfold owesRecv; rw [← todo_erase c hn]; exact (Finset.sum_erase_add _ _ (peer_mem_todo c hn)).symm

/-- Before trip `n` of the signals: the units still owed, with their tokens and the slots still to be handed out. -/
def sigInv (c : Dev nD) (W : Waits sig Unit) (n : ℕ) : sProp 𝕄 :=
  iprop(records m ρ K ∗ owes (c : Thread nD τ) (owesRecv c (Finset.univ.erase c) + owesBar (todo c n)) W
    ∗ (bigSep (todo c n) fun d => dutyTok ER (barCell d) 0 c)
    ∗ bigSep (todo c n) fun d => iprop(∃ f, slotPts (F := F) c d fullShare f))

theorem sig_trip (c : Dev nD) (W : Waits sig Unit) {n : ℕ} (hn : n < 31) (dst : Dev nD) (hd : dst = peer c n) {z : ℤ} (hz : z = ((1 : ℕ) : ℤ))
    {α : Type} {k : PUnit → Prog (TpuEff nD τ sig (Elt F) Λ₀ .tc) α} {Q : α → sProp 𝕄} :
    sigInv m ρ K c W n ⊢ iprop((sigInv m ρ K c W (n + 1) -∗ WP c (k ⟨⟩) Q)
      -∗ WP c (.op (.semSignal (dst : Thread nD τ) barS z) k) Q) := by
  subst hd hz
  unfold sigInv
  rw [take (peer_mem_todo c hn), take (peer_mem_todo c hn), todo_erase c hn, owesBar_peel c hn, ← add_assoc]
  iintro ⟨#HR, HO, ⟨Ht, Hts⟩, ⟨Hs, Hss⟩⟩ Hk
  iapply (Rounds.wp_signal 𝒱₀ ER (moeRd m ρ) (c : Thread nD τ) none (dst := (peer c n : Thread nD τ)) (κ := K (kBar (peer c n)))
      (d := c) (by rw [duties_bar]; exact Finset.mem_erase.mpr ⟨(peer_ne c hn).symm, Finset.mem_univ _⟩)
      (amount_bar m ρ (peer c n) c) () (owesRecv c (Finset.univ.erase c) + owesBar (todo c (n + 1))) rfl) $$ [HO Ht Hs]
  · isplitr; · iapply (inv_of m ρ K (kBar (peer c n))); iexact HR
    isplitl [HO]; · iexact HO
    isplitl [Ht]; · iexact Ht
    isplitl [Hs]; · rw [payload_bar]; iexact Hs
    iapply (reached_of m ρ K (kBar (peer c n))); iexact HR
  iintro HO
  iapply Hk
  isplitr; · iexact HR
  isplitl [HO]; · iexact HO
  isplitl [Hts]; · iexact Hts
  iexact Hss

/-! ## The loops, on the program's own operands -/

abbrev aX : Memref sig .tc .vmem S256x128 .bf16 := Memref.whole cc0_stg0_0
abbrev aR : Memref sig .tc .vmem S128x64 .bf16 := Memref.whole cc0_stg1_0
abbrev aI : Memref sig .tc .vmem S256x2 .i32 := Memref.whole cc0_stg2_0
abbrev aW : Memref sig .tc .vmem S2x128x256 .bf16 := Memref.whole cc0_stg3_0
abbrev aO : Memref sig .tc .vmem S256x256 .f32 := Memref.whole cc0_stg4_0
abbrev gM : Memref sig .tc .vmem S256x8192 .bf16 := Memref.whole cc0_scratch1

theorem trips1 : k0_t1_loop.trips = 31 := by decide
theorem trips2 : k0_t2_loop.trips = 31 := by decide
theorem trips3 : k0_t3_loop.trips = 31 := by decide

/-- The loop of barrier signals: every unit paid, every slot handed out. -/
theorem wp_signals (c : Dev nD) (W : Waits sig Unit) {α : Type} {kk : Unit → Prog (TpuEff nD τ sig (Elt F) Λ₀ .tc) α} {Q : α → sProp 𝕄} :
    sigInv m ρ K c W 0 ⊢ iprop((sigInv m ρ K c W 31 -∗ WP c (kk ⟨⟩) Q)
      -∗ WP c (Scf.Loop.for k0_t1_loop k0_t1_ok ⟨⟩ (k0_t1_body aX (Memref.isWhole_whole _) aR (Memref.isWhole_whole _) aI (Memref.isWhole_whole _)
          aW (Memref.isWhole_whole _) aO (Memref.isWhole_whole _) xM (Memref.isWhole_whole _) gM (Memref.isWhole_whole _) cc0_scratch2 cc0_scratch3 c
          (SemArray.scalar (sig.barrier 0 rfl))) >>= kk) Q) := by
  have h := Scf.wp_for_bind (M := 𝕄) frame (wpE (defs₀ (F := F)) 𝒱₀ (c : Thread nD τ) none) Set.univ k0_t1_loop.lb k0_t1_loop.ub k0_t1_loop.st k0_t1_ok ⟨⟩
    (k0_t1_body (F := F) aX (Memref.isWhole_whole _) aR (Memref.isWhole_whole _) aI (Memref.isWhole_whole _)
          aW (Memref.isWhole_whole _) aO (Memref.isWhole_whole _) xM (Memref.isWhole_whole _) gM (Memref.isWhole_whole _) cc0_scratch2 cc0_scratch3 c
          (SemArray.scalar (sig.barrier 0 rfl))) (fun n _ => sigInv m ρ K c W n) (fun k acc => by
      have hk : k.val < 31 := trips1 ▸ k.isLt
      unfold k0_t1_body
      simp only [semSignalWord, Prog.lift, Prog.bind_op, Prog.bind_ret, Prog.pure_eq_ret]
      iintro H
      iapply (sig_trip m ρ K c W hk _ (dev1_eq c k) (by decide)) $$ H
      iintro H
      iapply (wp_done c _ (fun _ => _)) $$ H) (kk := kk) (Q := Q)
  rw [show Scf.trips k0_t1_loop.lb k0_t1_loop.ub k0_t1_loop.st = 31 from trips1] at h
  iintro H Hk
  iapply h $$ H
  iintro %acc H
  iapply Hk; iexact H

/-! ## The transfers -/

/-- Before trip `n` of the transfers: of each device still to be sent to, the lent part of the own slot, the slot to fill and the two
    tokens; of each already sent to, the send cell's credit. -/
def sendInv (c : Dev nD) (W : Waits sig Unit) (n : ℕ) : sProp 𝕄 :=
  iprop(records m ρ K ∗ owes (c : Thread nD τ) (owesRecv c (todo c n)) W
    ∗ (bigSep (todo c n) fun d => slotPts c c (lent c d) (commAll m ρ))
    ∗ (bigSep (todo c n) fun d => iprop(∃ f, slotPts (F := F) d c fullShare f))
    ∗ (bigSep (todo c n) fun d => dutyTok ER (sendCell c d) 0 c)
    ∗ (bigSep (todo c n) fun d => dutyTok ER (recvCell d c) 0 d)
    ∗ bigSep (done c n) fun d => cred (tallyAt (sendCell c d) () N))

/-- One transfer: the own slot, lent to device `d`, to the same slot of `d`. -/
theorem wp_send_slot (c d : Dev nD) (hp : d ≠ c) (O : CellTallies nD τ sig Unit) (W : Waits sig Unit)
    {hsc : (slotM c : Memref sig (Dev.tc d : Thread nD τ).2.kind .vmem S256x256 .bf16).view.ref.isScScratch = false}
    {hsrc hdst : (slotM c).view.WordExact}
    {hsem : DmaTarget.Typed .vmem (.dma (rSem c)) (.remote (Dev.tc d : Thread nD τ) (slotM c) (.dma (sSem d)) hsc)}
    {α : Type} {k : PUnit → Prog (TpuEff nD τ sig (Elt F) Λ₀ .tc) α} {Q : α → sProp 𝕄}
    (fd : Buf (Elt F) ((slotM c : Memref sig .tc .vmem S256x256 .bf16).view.loc (d : Thread nD τ))) :
    iprop(cellInv ER (moeRd m ρ) (K (kSend c d)) (sendCell c d) ∗ cellInv ER (moeRd m ρ) (K (kRecv d c)) (recvCell d c)
        ∗ slotPts c c (lent c d) (commAll m ρ) ∗ slotPts d c fullShare fd
        ∗ owes (c : Thread nD τ) (O + tallyAt (recvCell d c) () N) W
        ∗ dutyTok ER (sendCell c d) 0 c ∗ reached ER (sendCell c d) 0
        ∗ dutyTok ER (recvCell d c) 0 d ∗ reached ER (recvCell d c) 0)
      ⊢ iprop(((cred (tallyAt (sendCell c d) () N) ∗ owes (c : Thread nD τ) O W) -∗ WP c (k ⟨⟩) Q)
      -∗ WP c (.op (.enqueueDma (slotM c) (.remote (Dev.tc d : Thread nD τ) (slotM c) (.dma (sSem d)) hsc) (.dma (rSem c)) hsrc hdst hsem) k) Q) := by
  have hs : ((slotM c).view.loc (c : Thread nD τ) ↦[(slotM c).view.set]{lent c d} commAll m ρ) ⊢ (moeRd m ρ).payload (sendCell c d) 0 c := by
    rw [payload_send]; exact .rfl
  have hr : ((slotM c).view.loc (d : Thread nD τ) ↦[(slotM c).view.set]{fullShare}
      (slotM c).view.write (Elt F) fd ((slotM c).view.read (Elt F) (commAll m ρ)) Finset.univ) ⊢ (moeRd m ρ).payload (recvCell d c) 0 d := by
    rw [payload_recv]; exact Entails.of_eq (slot_landed m ρ d c fullShare fd)
  unfold slotPts
  have ha : (slotM c : Memref sig (Dev.tc d : Thread nD τ).2.kind .vmem S256x256 .bf16).view.amount (SemLoc.dma (rSem c)) = N := credit_slot c
  have hro : Topo.routes τ (Dev.tc c : Thread nD τ) (Dev.tc d : Thread nD τ) = true := by routes
  have h1 : c ∈ (moeRd m ρ).duties (sendCell c d) 0 := (by rw [duties_send m ρ c _ hp]; exact Finset.mem_singleton_self _)
  have h2 : d ∈ (moeRd m ρ).duties (recvCell d c) 0 := (by rw [duties_recv m ρ _ _ hp.symm]; exact Finset.mem_singleton_self _)
  have h3 := amount_send m ρ c d c
  have h4 := amount_recv m ρ d c d
  exact Rounds.wp_send_pointsTo (defs := defs₀ (F := F)) (k := k) (Q := Q) 𝒱₀ ER (moeRd m ρ) (c : Thread nD τ) none (κ₁ := K (kSend c d)) (κ₂ := K (kRecv d c)) (src := slotM c) (dst := slotM c) (hsc := hsc) (hsrc := hsrc) (hdst := hdst) (hsem := hsem)
    (sS := .dma (sSem d)) (sem := .dma (rSem c)) (c' := (Dev.tc d : Thread nD τ)) h1 h2 () () N ha h3 h4 O rfl (W := W) hs hr (Es := Set.univ) hro

theorem send_trip (c : Dev nD) (W : Waits sig Unit) {n : ℕ} (hn : n < 31) (dst : Dev nD) (hd : dst = peer c n)
    {off : Fin 2 → Nat} (hin : ∀ a, off a + S256x256.size a ≤ S8192x256.size a) (hoff : off = ![256 * c.val, 0])
    (sS rS : DmaSem sig) (hsS : sS = sSem (peer c n)) (hrS : rS = rSem c)
    {hsc : (xM.slice (Rect.unit (s := S8192x256) off S256x256.size hin) (fun _ => rfl) : Memref sig (Dev.tc dst : Thread nD τ).2.kind .vmem S256x256 .bf16).view.ref.isScScratch = false}
    {hsrc : (xM.slice (Rect.unit (s := S8192x256) off S256x256.size hin) (fun _ => rfl)).view.WordExact}
    {hdst : (xM.slice (Rect.unit (s := S8192x256) off S256x256.size hin) (fun _ => rfl)).view.WordExact}
    {hsem : DmaTarget.Typed .vmem (.dma rS) (.remote (Dev.tc dst : Thread nD τ) (xM.slice (Rect.unit (s := S8192x256) off S256x256.size hin) (fun _ => rfl)) (.dma sS) hsc)}
    {α : Type} {k : PUnit → Prog (TpuEff nD τ sig (Elt F) Λ₀ .tc) α} {Q : α → sProp 𝕄} :
    sendInv m ρ K c W n ⊢ iprop((sendInv m ρ K c W (n + 1) -∗ WP c (k ⟨⟩) Q)
      -∗ WP c (.op (.enqueueDma (xM.slice (Rect.unit (s := S8192x256) off S256x256.size hin) (fun _ => rfl))
          (.remote (Dev.tc dst : Thread nD τ) (xM.slice (Rect.unit (s := S8192x256) off S256x256.size hin) (fun _ => rfl)) (.dma sS) hsc) (.dma rS) hsrc hdst hsem) k) Q) := by
  subst hd hoff hsS hrS
  have hp := peer_ne c hn
  unfold sendInv
  rw [take (peer_mem_todo c hn), take (peer_mem_todo c hn), take (peer_mem_todo c hn), take (peer_mem_todo c hn), todo_erase c hn, owesRecv_peel c hn,
    done_succ c hn, put (peer_notMem_done c hn)]
  iintro ⟨#HR, HO, ⟨Hx, Hxs⟩, ⟨⟨%fd, Hd⟩, Hds⟩, ⟨Ht, Hts⟩, ⟨Hu, Hus⟩, Hcs⟩ Hk
  iapply (wp_send_slot m ρ K c (peer c n) hp (owesRecv c (todo c (n + 1))) W (hsc := hsc) (hsrc := hsrc) (hdst := hdst) (hsem := hsem) (k := k) (Q := Q) fd) $$ [Hx Hd HO Ht Hu]
  · isplitr; · iapply (inv_of m ρ K (kSend c (peer c n))); iexact HR
    isplitr; · iapply (inv_of m ρ K (kRecv (peer c n) c)); iexact HR
    isplitl [Hx]; · iexact Hx
    isplitl [Hd]; · iexact Hd
    isplitl [HO]; · iexact HO
    isplitl [Ht]; · iexact Ht
    isplitr; · iapply (reached_of m ρ K (kSend c (peer c n))); iexact HR
    isplitl [Hu]; · iexact Hu
    iapply (reached_of m ρ K (kRecv (peer c n) c)); iexact HR
  iintro ⟨Hc, HO⟩
  iapply Hk
  isplitr; · iexact HR
  isplitl [HO]; · iexact HO
  isplitl [Hxs]; · iexact Hxs
  isplitl [Hds]; · iexact Hds
  isplitl [Hts]; · iexact Hts
  isplitl [Hus]; · iexact Hus
  isplitl [Hc]; · iexact Hc
  iexact Hcs

/-- The loop of transfers. -/
theorem wp_sends (c : Dev nD) (W : Waits sig Unit) (v2 : BitVec 32) (v6 : FVec F S256x128 .bf16) (v32 : FVec F S256x64 .f32) (v34 : FVec F S256x1 .f32)
    {α : Type} {kk : Unit → Prog (TpuEff nD τ sig (Elt F) Λ₀ .tc) α} {Q : α → sProp 𝕄} :
    sendInv m ρ K c W 0 ⊢ iprop((sendInv m ρ K c W 31 -∗ WP c (kk ⟨⟩) Q)
      -∗ WP c (Scf.Loop.for k0_t2_loop k0_t2_ok ⟨⟩ (k0_t2_body aX (Memref.isWhole_whole _) aR (Memref.isWhole_whole _) aI (Memref.isWhole_whole _)
          aW (Memref.isWhole_whole _) aO (Memref.isWhole_whole _) xM (Memref.isWhole_whole _) gM (Memref.isWhole_whole _) cc0_scratch2 cc0_scratch3 c
          v2 v6 v32 v34) >>= kk) Q) := by
  have h := Scf.wp_for_bind (M := 𝕄) frame (wpE (defs₀ (F := F)) 𝒱₀ (c : Thread nD τ) none) Set.univ k0_t2_loop.lb k0_t2_loop.ub k0_t2_loop.st k0_t2_ok ⟨⟩
    (k0_t2_body (F := F) aX (Memref.isWhole_whole _) aR (Memref.isWhole_whole _) aI (Memref.isWhole_whole _)
          aW (Memref.isWhole_whole _) aO (Memref.isWhole_whole _) xM (Memref.isWhole_whole _) gM (Memref.isWhole_whole _) cc0_scratch2 cc0_scratch3 c
          v2 v6 v32 v34) (fun n _ => sendInv m ρ K c W n) (fun k acc => by
      have hk : k.val < 31 := trips2 ▸ k.isLt
      unfold k0_t2_body
      simp only [Prog.lift, Prog.bind_op, Prog.bind_ret, Prog.pure_eq_ret]
      iintro H
      iapply (send_trip m ρ K c W hk _ (dev2_eq c k) _ (off4_eq c) _ _ (send_at _ (peer c k.val) (off2_eq c k)) (recv_at _ c (off3_eq c))) $$ H
      iintro H
      iapply (wp_done c _ (fun _ => _)) $$ H) (kk := kk) (Q := Q)
  rw [show Scf.trips k0_t2_loop.lb k0_t2_loop.ub k0_t2_loop.st = 31 from trips2] at h
  iintro H Hk
  iapply h $$ H
  iintro %acc H
  iapply Hk; iexact H

/-! ## The send waits -/

/-- Before trip `n` of the send waits: of each device still to be waited for, the position and the credit; of each waited for, the next
    position and the lent part back. -/
def drainInv (c : Dev nD) (n : ℕ) : sProp 𝕄 :=
  iprop(records m ρ K ∗ (∃ W, owes (c : Thread nD τ) 0 W)
    ∗ (bigSep (todo c n) fun d => iprop(atPos ER (sendCell c d) 0 ∅ 0 ∗ cred (tallyAt (sendCell c d) () N)))
    ∗ bigSep (done c n) fun d => iprop(atPos ER (sendCell c d) (0 + 1) ∅ 0 ∗ slotPts c c (lent c d) (commAll m ρ)))

theorem drain_trip (c : Dev nD) {n : ℕ} (hn : n < 31)
    {off : Fin 2 → Nat} (hin : ∀ a, off a + S256x256.size a ≤ S8192x256.size a) (hoff : off = ![256 * c.val, 0])
    (sS : DmaSem sig) (hsS : sS = sSem (peer c n))
    {hsrc hdst : (xM.slice (Rect.unit (s := S8192x256) off S256x256.size hin) (fun _ => rfl)).view.WordExact}
    {α : Type} {k : PUnit → Prog (TpuEff nD τ sig (Elt F) Λ₀ .tc) α} {Q : α → sProp 𝕄} :
    drainInv m ρ K c n ⊢ iprop((drainInv m ρ K c (n + 1) -∗ WP c (k ⟨⟩) Q)
      -∗ WP c (.op (.waitDma2 sS (xM.slice (Rect.unit (s := S8192x256) off S256x256.size hin) (fun _ => rfl))
          (xM.slice (Rect.unit (s := S8192x256) off S256x256.size hin) (fun _ => rfl)) hsrc hdst) k) Q) := by
  subst hoff hsS
  have hp := peer_ne c hn
  unfold drainInv
  rw [take (peer_mem_todo c hn), todo_erase c hn, done_succ c hn, put (peer_notMem_done c hn)]
  iintro ⟨#HR, ⟨%W, HO⟩, ⟨⟨Hat, Hc⟩, Hws⟩, Hds⟩ Hk
  iapply (Rounds.wp_wait_rest_token 𝒱₀ ER (moeRd m ρ) (c : Thread nD τ) none (κ := K (kSend c (peer c n)))
      (wpE_waitDma2_eq 𝒱₀ (c : Thread nD τ) none Set.univ) (Set.mem_univ _) () (O := 0) (W := W) (R := 0) (m := 0) (T := ∅)
      (by rw [Nat.zero_add, expect_send m ρ c _ hp]; rfl)) $$ [Hc HO Hat]
  · isplitr; · iapply (inv_of m ρ K (kSend c (peer c n))); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c _ hp)) $$ Hpay
  iapply Hk
  isplitr; · iexact HR
  isplitl [HO]; · iexists _; iexact HO
  isplitl [Hws]; · iexact Hws
  isplitl [Hat Hp]
  · isplitl [Hat] <;> iassumption
  iexact Hds

/-- The loop of send waits. -/
theorem wp_drain (c : Dev nD) {α : Type} {kk : Unit → Prog (TpuEff nD τ sig (Elt F) Λ₀ .tc) α} {Q : α → sProp 𝕄} :
    drainInv m ρ K c 0 ⊢ iprop((drainInv m ρ K c 31 -∗ WP c (kk ⟨⟩) Q)
      -∗ WP c (Scf.Loop.for k0_t3_loop k0_t3_ok ⟨⟩ (k0_t3_body aX (Memref.isWhole_whole _) aR (Memref.isWhole_whole _) aI (Memref.isWhole_whole _)
          aW (Memref.isWhole_whole _) aO (Memref.isWhole_whole _) xM (Memref.isWhole_whole _) gM (Memref.isWhole_whole _) cc0_scratch2 cc0_scratch3 c) >>= kk) Q) := by
  have h := Scf.wp_for_bind (M := 𝕄) frame (wpE (defs₀ (F := F)) 𝒱₀ (c : Thread nD τ) none) Set.univ k0_t3_loop.lb k0_t3_loop.ub k0_t3_loop.st k0_t3_ok ⟨⟩
    (k0_t3_body (F := F) aX (Memref.isWhole_whole _) aR (Memref.isWhole_whole _) aI (Memref.isWhole_whole _)
          aW (Memref.isWhole_whole _) aO (Memref.isWhole_whole _) xM (Memref.isWhole_whole _) gM (Memref.isWhole_whole _) cc0_scratch2 cc0_scratch3 c)
      (fun n _ => drainInv m ρ K c n) (fun k acc => by
      have hk : k.val < 31 := trips3 ▸ k.isLt
      unfold k0_t3_body
      simp only [Prog.lift, Prog.bind_op, Prog.bind_ret, Prog.pure_eq_ret]
      iintro H
      iapply (drain_trip m ρ K c hk _ (off6_eq c) _ (send_at _ (peer c k.val) (off5_eq c k))) $$ H
      iintro H
      iapply (wp_done c _ (fun _ => _)) $$ H) (kk := kk) (Q := Q)
  rw [show Scf.trips k0_t3_loop.lb k0_t3_loop.ub k0_t3_loop.st = 31 from trips3] at h
  iintro H Hk
  iapply h $$ H
  iintro %acc H
  iapply Hk; iexact H

/-! ## The receive waits and the loads of what came -/

/-- What a device holds of slot `o` once the first `n` receive waits are past: of its own slot the half kept for the loads; of a slot
    received, both halves and the next position; of a slot to come, the position and the credit. -/
def item (c : Dev nD) (n : ℕ) (o : Fin 32) : sProp 𝕄 :=
  if o = c then slotPts c c fullShare.left (commAll m ρ)
  else if o.val < n then iprop(slotPts c o fullShare.left (commAll m ρ) ∗ slotPts c o fullShare.right (commAll m ρ) ∗ atPos ER (recvCell c o) (0 + 1) ∅ 0)
  else iprop(atPos ER (recvCell c o) 0 ∅ 0 ∗ cred (tallyAt (recvCell c o) () N))

/-- The state between the receive waits. -/
def recvSt (c : Dev nD) (n : ℕ) : sProp 𝕄 :=
  iprop(records m ρ K ∗ (∃ W, owes (c : Thread nD τ) 0 W) ∗ bigSep Finset.univ (item m ρ c n))

theorem item_step (c : Dev nD) {n : ℕ} {o : Fin 32} (h : o.val ≠ n ∨ o = c) : item m ρ c (n + 1) o = item m ρ c n o := by
  unfold item
  by_cases ho : o = c
  · rw [if_pos ho, if_pos ho]
  · rw [if_neg ho, if_neg ho]
    rcases h with h | h
    · by_cases hl : o.val < n
      · rw [if_pos hl, if_pos (by omega)]
      · rw [if_neg hl, if_neg (by omega)]
    · exact absurd h ho

/-- The kernel's condition on slot `n`: not the device's own. -/
theorem cond_iff (c : Dev nD) (n : Fin 32) :
    (Scalar.cmpi .ne (Scalar.extui (Scalar.cmpi .ne (Scalar.remsi (Scalar.divsi (Dev.word c) 1#32) 32#32) (BitVec.ofNat 32 n.val)) : BitVec 32) 0#32 = 1#1) ↔ n ≠ c := by
  revert c n; decide +kernel

/-- One conditional receive wait. -/
theorem wp_recv (c : Dev nD) (n : Fin 32) {P : Prop} [Decidable P] (hP : P ↔ n ≠ c) {off : Fin 2 → Nat} (hin : ∀ a, off a + S256x256.size a ≤ S8192x256.size a)
    (rS : DmaSem sig) (hrS : rS = rSem n)
    {hsrc hdst : (xM.slice (Rect.unit (s := S8192x256) off S256x256.size hin) (fun _ => rfl)).view.WordExact}
    {α : Type} {k : PUnit → Prog (TpuEff nD τ sig (Elt F) Λ₀ .tc) α} {Q : α → sProp 𝕄} :
    recvSt m ρ K c n.val ⊢ iprop((recvSt m ρ K c (n.val + 1) -∗ WP c (k ⟨⟩) Q)
      -∗ WP c (dite P (fun _ => .op (.waitDma2 rS (xM.slice (Rect.unit (s := S8192x256) off S256x256.size hin) (fun _ => rfl))
          (xM.slice (Rect.unit (s := S8192x256) off S256x256.size hin) (fun _ => rfl)) hsrc hdst) k) (fun _ => k ⟨⟩)) Q) := by
  subst hrS
  by_cases h : n = c
  · rw [dif_neg fun hp => hP.1 hp h]
    have he : recvSt m ρ K c (n.val + 1) = recvSt m ρ K c n.val := by
      unfold recvSt; rw [bigSep_congr fun o _ => item_step m ρ c (n := n.val) (o := o) (by
        by_cases ho : o.val = n.val
        · exact .inr ((Fin.ext ho).trans h)
        · exact .inl ho)]
    rw [he]
    iintro H Hk
    iapply Hk; iexact H
  · rw [dif_pos (hP.2 h)]
    unfold recvSt
    rw [take (Finset.mem_univ n) (item m ρ c n.val), take (Finset.mem_univ n) (item m ρ c (n.val + 1)),
      bigSep_congr (s := Finset.univ.erase n) fun o ho => item_step m ρ c (n := n.val) (o := o)
        (.inl fun he => (Finset.mem_erase.mp ho).1 (Fin.ext he)),
      show item m ρ c n.val n = iprop(atPos ER (recvCell c n) 0 ∅ 0 ∗ cred (tallyAt (recvCell c n) () N)) from by
        unfold item; rw [if_neg h, if_neg (Nat.lt_irrefl _)],
      show item m ρ c (n.val + 1) n = iprop(slotPts c n fullShare.left (commAll m ρ) ∗ slotPts c n fullShare.right (commAll m ρ)
        ∗ atPos ER (recvCell c n) (0 + 1) ∅ 0) from by
        unfold item; rw [if_neg h, if_pos (Nat.lt_succ_self _)]]
    iintro ⟨#HR, ⟨%W, HO⟩, ⟨Hat, Hc⟩, Hrest⟩ Hk
    iapply (Rounds.wp_wait_rest_token 𝒱₀ ER (moeRd m ρ) (c : Thread nD τ) none (κ := K (kRecv c n))
        (wpE_waitDma2_eq 𝒱₀ (c : Thread nD τ) none Set.univ) (Set.mem_univ _) () (O := 0) (W := W) (R := 0) (m := 0) (T := ∅)
        (by rw [Nat.zero_add, expect_recv m ρ c _ h]; rfl)) $$ [Hc HO Hat]
    · isplitr; · iapply (inv_of m ρ K (kRecv c n)); iexact HR
      isplitl [Hc]; · iexact Hc
      isplitl [HO]; · iexact HO
      isplitr; · rw [MayWait_zero]; iempintro
      iexact Hat
    iintro ⟨HO, Hat, -, Hpay⟩
    ihave Hp := (Entails.of_eq ((rest_recv m ρ c _ h).trans (slot_halves c n (commAll m ρ)))) $$ Hpay
    icases Hp with ⟨Hl, Hr⟩
    iapply Hk
    isplitr; · iexact HR
    isplitl [HO]; · iexists _; iexact HO
    isplitl [Hl Hr Hat]
    · isplitl [Hl]; · iexact Hl
      isplitl [Hr] <;> iassumption
    iexact Hrest

/-- What of slot `o` is not the half the loads read. -/
def itemRest (c : Dev nD) (o : Fin 32) : sProp 𝕄 :=
  if o = c then iprop(emp) else iprop(slotPts c o fullShare.right (commAll m ρ) ∗ atPos ER (recvCell c o) (0 + 1) ∅ 0)

theorem item_past (c : Dev nD) {n : ℕ} {o : Fin 32} (h : o.val < n) :
    item m ρ c n o ⊣⊢ iprop(slotPts c o fullShare.left (commAll m ρ) ∗ itemRest m ρ c o) := by
  unfold item itemRest
  by_cases ho : o = c
  · subst ho; simp only [if_true]; exact (sep_emp (PROP := sProp 𝕄)).symm
  · rw [if_neg ho, if_pos h, if_neg ho]

/-- The load of group `g`, once its slots are past. -/
theorem wp_group (c : Dev nD) (g : Fin 4) {n : ℕ} (hn : 8 * (g.val + 1) ≤ n) {off : Fin 2 → Nat} (hoff : off = ![2048 * g.val, 0])
    (hin : ∀ a, off a + S2048x256.size a ≤ S8192x256.size a)
    {hl : xM.view.LoadsAt (Rect.unit (s := S8192x256) off S2048x256.size hin).toLoadRect}
    {α : Type} {k : (S2048x256.Idx → Elt F .bf16) → Prog (TpuEff nD τ sig (Elt F) Λ₀ .tc) α} {Q : α → sProp 𝕄} :
    recvSt m ρ K c n ⊢ iprop((recvSt m ρ K c n -∗ WP c (k (wtsOf m ρ g)) Q)
      -∗ WP c (.op (.load xM (Rect.unit (s := S8192x256) off S2048x256.size hin).toLoadRect hl) k) Q) := by
  subst hoff
  have hs : bigSep (grp g.val) (item m ρ c n)
      = iprop((bigSep (grp g.val) fun o => slotPts c o fullShare.left (commAll m ρ)) ∗ bigSep (grp g.val) (itemRest m ρ c)) := by
    rw [← bigSep_sep']
    exact bigSep_congr fun o ho => BI.Entails.antisymm (item_past m ρ c (by have := mem_grp.1 ho; omega)).1 (item_past m ρ c (by have := mem_grp.1 ho; omega)).2
  unfold recvSt
  rw [show bigSep Finset.univ (item m ρ c n) = iprop(bigSep (grp g.val) (item m ρ c n) ∗ bigSep (Finset.univ \ grp g.val) (item m ρ c n)) from
    bigSep_sdiff_split (Finset.subset_univ _), hs, ← grp_slots]
  iintro ⟨#HR, HO, ⟨Hg, Hgr⟩, Hrest⟩ Hk
  iapply (wp_load 𝒱₀ (c : Thread nD τ) none Set.univ (m := xM) (grp_subset g)) $$ Hg; iintro Hg
  iapply Hk
  isplitr; · iexact HR
  isplitl [HO]; · iexact HO
  isplitl [Hg Hgr]
  · isplitl [Hg] <;> iassumption
  iexact Hrest

end Cert.MoeProof

end
-- ==== Proof.Xg.lean ====
/-
The products of the tokens with the routing weights, stored expert by expert, and the steps of the body's second half:
the conditional receive waits, the loads of one group of columns and of one group of slots, and the accumulation.
-/
module

public import proofs.«01_k».proof.Proof.Steps

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

/-! ## The products, expert by expert -/

theorem slices_col (e : Fin 64) : S256x64.Slices ![0, e.val] S256x1 := by revert e; decide

/-- The block of expert `e`: the tokens times its column of the weights, rounded to the narrow type. -/
def xgBlk (v6 : FVec F S256x128 .bf16) (v36 : FVec F S256x64 .f32) (e : Fin 64) : FVec F S256x128 .bf16 :=
  shapeCast S256x128 (truncf .bf16 (mulf (extf .f32 v6 bitsLt_bf16_f32)
    (broadcastTo S256x128 (extractStridedSlice S256x1 ![0, e.val] v36 (slices_col e)) broadcasts_S256x1_S256x128)) bitsLt_bf16_f32) shapeCasts_S256x128_S256x128

/-- The expert a column of the buffer of products belongs to, and the index inside its block. -/
def colOwner (i : S256x8192.Idx) : Fin 64 := ⟨(i 1).val / 128, by have h : (i 1).val < 8192 := (i 1).isLt; omega⟩
def inBlk (i : S256x8192.Idx) : S256x128.Idx := ix2 (n0 := 256) (n1 := 128) (i 0) ⟨(i 1).val % 128, Nat.mod_lt _ (by decide)⟩

/-- All sixty-four blocks side by side. -/
def xgAll (v6 : FVec F S256x128 .bf16) (v36 : FVec F S256x64 .f32) : (cc0_scratch1 : Ref sig .tc).ty.Contents (Elt F) :=
  fun i => xgBlk v6 v36 (colOwner i) (inBlk i)

/-- The buffer of products, its first `e` blocks filled. -/
def xgSt (v6 : FVec F S256x128 .bf16) (v36 : FVec F S256x64 .f32) (c : Dev nD) (e : ℕ) : sProp 𝕄 :=
  iprop(∃ f : (cc0_scratch1 : Ref sig .tc).ty.Contents (Elt F), ⌜∀ i : S256x8192.Idx, (i 1).val < 128 * e → f i = xgAll v6 v36 i⌝
    ∗ (((c : Thread nD τ).loc cc0_scratch1) ↦{fullShare} f))

variable (v6 : FVec F S256x128 .bf16) (v36 : FVec F S256x64 .f32)

theorem xg_inb (e : Fin 64) : ∀ a, (![0, 128 * e.val] : Fin 2 → Nat) a + S256x128.size a ≤ S256x8192.size a := by revert e; decide

abbrev blkR (e : Fin 64) : Rect S256x8192 := Rect.unit (s := S256x8192) ![0, 128 * e.val] S256x128.size (xg_inb e)

omit [FloatOps F] in
theorem blk_set (e : Fin 64) (i : S256x8192.Idx) : i ∈ (blkR e).set ↔ 128 * e.val ≤ (i 1).val ∧ (i 1).val < 128 * (e.val + 1) := by
  rw [Rect.mem_set_unit]
  have h0 : (i 0).val < 256 := (i 0).isLt
  constructor
  · intro h
    have h1 : 128 * e.val ≤ (i 1).val ∧ (i 1).val < 128 * e.val + 128 := h 1
    omega
  · rintro ⟨h1, h2⟩ a
    match a with
    | 0 => exact ⟨Nat.zero_le _, show (i 0).val < 0 + 256 by omega⟩
    | 1 => exact ⟨h1, show (i 1).val < 128 * e.val + 128 by omega⟩

/-- The products under block `e`'s indices are block `e`. -/
theorem xgAll_emb (e : Fin 64) (j : S256x128.Idx) : xgAll v6 v36 ((blkR e).emb j) = xgBlk v6 v36 e j := by
  have h0 : (j 1).val < 128 := (j 1).isLt
  have h1 : (((blkR e).emb j) 1 : Nat) = 128 * e.val + (j 1).val := by rw [Rect.emb_apply]; simp [blkR, Rect.unit]
  have h2 : (((blkR e).emb j) 0 : Nat) = (j 0).val := by rw [Rect.emb_apply]; simp [blkR, Rect.unit]
  have ho : colOwner ((blkR e).emb j) = e := Fin.ext (by show _ / 128 = _; rw [h1]; omega)
  have hj : inBlk ((blkR e).emb j) = j := by
    rw [eq_ix2 (n0 := 256) (n1 := 128) j]; unfold inBlk
    congr 1
    · exact Fin.ext (by rw [← eq_ix2 (n0 := 256) (n1 := 128) j]; exact h2)
    · exact Fin.ext (by show _ % 128 = _; rw [← eq_ix2 (n0 := 256) (n1 := 128) j, h1]; omega)
  unfold xgAll; rw [ho, hj]

omit [FloatOps F] in
theorem blk_set' (e : Fin 64) : (gM.access (blkR e) : View sig .tc _ _ _).setOn Finset.univ = (blkR e).set := View.set_slice_whole cc0_scratch1 (blkR e)

/-- Storing block `e` over a buffer whose first `e` blocks are filled fills one more. -/
theorem xg_fill (e : Fin 64) (f : (cc0_scratch1 : Ref sig .tc).ty.Contents (Elt F))
    (hf : ∀ i : S256x8192.Idx, (i 1).val < 128 * e.val → f i = xgAll v6 v36 i) (i : S256x8192.Idx) (hi : (i 1).val < 128 * (e.val + 1)) :
    (gM.access (blkR e) : View sig .tc _ _ _).write (Elt F) f (xgBlk v6 v36 e) Finset.univ i = xgAll v6 v36 i := by
  by_cases h : (i 1).val < 128 * e.val
  · have hn : i ∉ (gM.access (blkR e) : View sig .tc _ _ _).setOn Finset.univ := by rw [blk_set', blk_set]; omega
    exact (View.write_of_not_mem (v := (gM.access (blkR e) : View sig .tc _ _ _)) (Val := Elt F) f (xgBlk v6 v36 e) Finset.univ hn).trans (hf i h)
  · have hm : i ∈ (gM.access (blkR e) : View sig .tc _ _ _).setOn Finset.univ := by rw [blk_set', blk_set]; exact ⟨by omega, hi⟩
    obtain ⟨j, rfl⟩ : ∃ j : S256x128.Idx, (blkR e).emb j = i := by
      rw [View.setOn, Finset.mem_map] at hm
      obtain ⟨j, -, hj⟩ := hm
      exact ⟨j, hj⟩
    rw [xgAll_emb]
    exact View.write_emb_of_mem (v := (gM.access (blkR e) : View sig .tc _ _ _)) (Val := Elt F) f _ (Finset.mem_univ j)

/-- A load of the buffer of products whose value is not used. -/
theorem xg_load {c : Dev nD} {e : ℕ} {R : sProp 𝕄} {r : Rect S256x8192} {hl : gM.view.LoadsAt r.toLoadRect} {α : Type}
    {k : (r.shape.Idx → Elt F .bf16) → Prog (TpuEff nD τ sig (Elt F) Λ₀ .tc) α} {Q : α → sProp 𝕄}
    (h : ∀ v, iprop(xgSt v6 v36 c e ∗ R) ⊢ WP c (k v) Q) : iprop(xgSt v6 v36 c e ∗ R) ⊢ WP c (.op (.load gM r.toLoadRect hl) k) Q := by
  unfold xgSt
  iintro ⟨⟨%f, %hf, Hx⟩, HR⟩
  iapply (wp_load 𝒱₀ (c : Thread nD τ) none Set.univ (m := gM) (Finset.subset_univ _)) $$ Hx; iintro Hx
  iapply (h _)
  unfold xgSt
  isplitr [HR]
  · iexists f
    isplitr; · ipureintro; exact hf
    iexact Hx
  iexact HR

/-- The store of block `e`. -/
theorem xg_store {c : Dev nD} {e : ℕ} (he : e < 64) {R : sProp 𝕄} {off : Fin 2 → Nat} (hoff : off = ![0, 128 * e])
    {hin : ∀ a, off a + S256x128.size a ≤ S256x8192.size a} {w : FVec F S256x128 .bf16} (hw : w = xgBlk v6 v36 ⟨e, he⟩)
    {hx : (gM.access (Rect.unit (s := S256x8192) off S256x128.size hin)).Stores Finset.univ}
    {hm : Finset.univ = Finset.univ ∨ ∀ a, (Rect.unit (s := S256x8192) off S256x128.size hin).stride a = 1} {α : Type}
    {k : PUnit → Prog (TpuEff nD τ sig (Elt F) Λ₀ .tc) α} {Q : α → sProp 𝕄}
    (h : iprop(xgSt v6 v36 c (e + 1) ∗ R) ⊢ WP c (k ⟨⟩) Q) :
    iprop(xgSt v6 v36 c e ∗ R) ⊢ WP c (.op (.store gM (Rect.unit (s := S256x8192) off S256x128.size hin) w Finset.univ hx hm) k) Q := by
  subst hoff hw
  unfold xgSt at *
  iintro ⟨⟨%f, %hf, Hx⟩, HR⟩
  iapply (wp_store 𝒱₀ (c : Thread nD τ) none Set.univ (m := gM) (r := blkR ⟨e, he⟩) (Mk := Finset.univ) (Finset.subset_univ _)) $$ Hx; iintro Hx
  iapply h
  isplitr [HR]
  · iexists _
    isplitr
    swap; · iexact Hx
    ipureintro; exact xg_fill v6 v36 ⟨e, he⟩ f hf
  iexact HR

/-! ## The second half's steps -/

theorem xgrp_inb (g : Fin 4) : ∀ a, (![0, 2048 * g.val] : Fin 2 → Nat) a + S256x2048.size a ≤ S256x8192.size a := by revert g; decide

/-- Group `g` of the products: columns `2048 g` to `2048 g + 2047`. -/
def xgOf (g : Fin 4) : Vec F S256x2048 .bf16 :=
  gM.view.readAt (Elt F) (Rect.unit (s := S256x8192) ![0, 2048 * g.val] S256x2048.size (xgrp_inb g)).toLoadRect (xgAll v6 v36)

def outPts (c : Dev nD) (f : FVec F S256x256 .f32) : sProp 𝕄 := ((c : Thread nD τ).loc cc0_stg4_0) ↦{fullShare} f

/-- The state of the second half: `n` receive waits past, all products stored, the output block at `f`, and the rest. -/
def phase (c : Dev nD) (R : sProp 𝕄) (n : ℕ) (f : FVec F S256x256 .f32) : sProp 𝕄 :=
  iprop(recvSt m ρ K c n ∗ xgSt v6 v36 c 64 ∗ outPts c f ∗ R)

variable {m ρ K v6 v36}

/-- One operation run under a condition, then the continuation. -/
def guarded {α : Type} (P : Prop) [Decidable P] (o : TpuEff nD τ sig (Elt F) Λ₀ .tc PUnit) (k : PUnit → Prog (TpuEff nD τ sig (Elt F) Λ₀ .tc) α) :
    Prog (TpuEff nD τ sig (Elt F) Λ₀ .tc) α := dite P (fun _ => .op o k) (fun _ => k ⟨⟩)

/-- The conditional with the continuation in both branches is the guarded operation. -/
theorem guarded_eq {α : Type} (P : Prop) [Decidable P] (o : TpuEff nD τ sig (Elt F) Λ₀ .tc PUnit) (k : PUnit → Prog (TpuEff nD τ sig (Elt F) Λ₀ .tc) α) :
    (dite P (fun _ => .op o k) (fun _ => k ⟨⟩)) = guarded P o k := rfl

/-- A device's number as the kernel computes it. -/
abbrev numW (c : Dev nD) : BitVec 32 := Scalar.remsi (Scalar.divsi (Dev.word c) 1#32) 32#32

/-- What follows a guarded operation goes into its continuation. -/
theorem guarded_bind {α β : Type} (P : Prop) [Decidable P] (o : TpuEff nD τ sig (Elt F) Λ₀ .tc PUnit) (k : PUnit → Prog (TpuEff nD τ sig (Elt F) Λ₀ .tc) α)
    (l : α → Prog (TpuEff nD τ sig (Elt F) Λ₀ .tc) β) : (guarded P o k >>= l) = guarded P o (fun r => k r >>= l) := by
  unfold guarded; by_cases hP : P <;> simp only [hP, dite_true, dite_false] <;> rfl

theorem recv_step {c : Dev nD} {R : sProp 𝕄} {n : ℕ} {v2 : BitVec 32} {P : Prop} [Decidable P] (hn : n < 32) (hv2 : v2 = numW c) (hP : P = (Scalar.cmpi .ne (Scalar.extui (Scalar.cmpi .ne v2 (BitVec.ofNat 32 n)) : BitVec 32) 0#32 = 1#1)) {f : FVec F S256x256 .f32} {off : Fin 2 → Nat}
    {h1 : ∀ a, (![n] : Fin 1 → Nat) a + S1.size a ≤ S32.size a} {hin : ∀ a, off a + S256x256.size a ≤ S8192x256.size a}
    {hsrc hdst : (xM.slice (Rect.unit (s := S8192x256) off S256x256.size hin) (fun _ => rfl)).view.WordExact}
    {α : Type} {k : PUnit → Prog (TpuEff nD τ sig (Elt F) Λ₀ .tc) α} {Q : α → sProp 𝕄}
    (h : phase m ρ K v6 v36 c R (n + 1) f ⊢ WP c (k ⟨⟩) Q) :
    phase m ρ K v6 v36 c R n f ⊢ WP c (guarded P
        (.waitDma2 ((cc0_scratch3.slice (Rect.unit (s := S32) ![n] S1.size h1)).squeeze S_ squeezes_S1_S_).sem
          (xM.slice (Rect.unit (s := S8192x256) off S256x256.size hin) (fun _ => rfl))
          (xM.slice (Rect.unit (s := S8192x256) off S256x256.size hin) (fun _ => rfl)) hsrc hdst) k) Q := by
  unfold guarded
  unfold phase at *
  subst hv2
  iintro ⟨Hr, HR⟩
  iapply (wp_recv m ρ K c ⟨n, hn⟩ (hP ▸ cond_iff c ⟨n, hn⟩) hin _ (recv_at h1 ⟨n, hn⟩ rfl) (k := k)) $$ Hr
  iintro Hr
  iapply h
  isplitl [Hr] <;> iassumption

theorem load_xg {c : Dev nD} {R : sProp 𝕄} {n : ℕ} {f : FVec F S256x256 .f32} (g : Fin 4) {off : Fin 2 → Nat} (hoff : off = ![0, 2048 * g.val])
    {hin : ∀ a, off a + S256x2048.size a ≤ S256x8192.size a} {hl : gM.view.LoadsAt (Rect.unit (s := S256x8192) off S256x2048.size hin).toLoadRect}
    {α : Type} {k : (S256x2048.Idx → Elt F .bf16) → Prog (TpuEff nD τ sig (Elt F) Λ₀ .tc) α} {Q : α → sProp 𝕄}
    (h : phase m ρ K v6 v36 c R n f ⊢ WP c (k (xgOf v6 v36 g)) Q) :
    phase m ρ K v6 v36 c R n f ⊢ WP c (.op (.load gM (Rect.unit (s := S256x8192) off S256x2048.size hin).toLoadRect hl) k) Q := by
  subst hoff
  unfold phase xgSt at *
  iintro ⟨Hr, ⟨%fx, %hf, Hx⟩, HR⟩
  have e : fx = xgAll v6 v36 := funext fun (i : S256x8192.Idx) => hf i (i 1).isLt
  iapply (wp_load 𝒱₀ (c : Thread nD τ) none Set.univ (m := gM) (Finset.subset_univ _)) $$ Hx; iintro Hx
  subst e
  iapply h
  isplitl [Hr]; · iexact Hr
  isplitl [Hx]
  · iexists _
    isplitr
    swap; · iexact Hx
    ipureintro; exact hf
  iexact HR

theorem load_wts {c : Dev nD} {R : sProp 𝕄} {n : ℕ} {f : FVec F S256x256 .f32} (g : Fin 4) (hn : 8 * (g.val + 1) ≤ n) {off : Fin 2 → Nat} (hoff : off = ![2048 * g.val, 0])
    {hin : ∀ a, off a + S2048x256.size a ≤ S8192x256.size a} {hl : xM.view.LoadsAt (Rect.unit (s := S8192x256) off S2048x256.size hin).toLoadRect}
    {α : Type} {k : (S2048x256.Idx → Elt F .bf16) → Prog (TpuEff nD τ sig (Elt F) Λ₀ .tc) α} {Q : α → sProp 𝕄}
    (h : phase m ρ K v6 v36 c R n f ⊢ WP c (k (wtsOf m ρ g)) Q) :
    phase m ρ K v6 v36 c R n f ⊢ WP c (.op (.load xM (Rect.unit (s := S8192x256) off S2048x256.size hin).toLoadRect hl) k) Q := by
  unfold phase at *
  iintro ⟨Hr, HR⟩
  iapply (wp_group m ρ K c g hn hoff hin (k := k)) $$ Hr
  iintro Hr
  iapply h
  isplitl [Hr] <;> iassumption

theorem load_out {c : Dev nD} {R : sProp 𝕄} {n : ℕ} {f : FVec F S256x256 .f32} {hin : ∀ a, (![0, 0] : Fin 2 → Nat) a + S256x256.size a ≤ S256x256.size a}
    {hl : aO.view.LoadsAt (Rect.unit (s := S256x256) ![0, 0] S256x256.size hin).toLoadRect}
    {α : Type} {k : (S256x256.Idx → Elt F .f32) → Prog (TpuEff nD τ sig (Elt F) Λ₀ .tc) α} {Q : α → sProp 𝕄}
    (h : phase m ρ K v6 v36 c R n f ⊢ WP c (k f) Q) :
    phase m ρ K v6 v36 c R n f ⊢ WP c (.op (.load aO (Rect.unit (s := S256x256) ![0, 0] S256x256.size hin).toLoadRect hl) k) Q := by
  unfold phase outPts at *
  iintro ⟨Hr, Hx, Ho, HR⟩
  iapply (wp_load 𝒱₀ (c : Thread nD τ) none Set.univ (m := aO) (Finset.subset_univ _)) $$ Ho; iintro Ho
  have e : aO.view.readAt (Elt F) (Rect.unit (s := S256x256) ![0, 0] S256x256.size hin).toLoadRect f = f :=
    Memref.readAt_unit_zero (Elt F) cc0_stg4_0 (by decide) _ f
  rw [e]
  iapply h
  isplitl [Hr]; · iexact Hr
  isplitl [Hx]; · iexact Hx
  isplitl [Ho] <;> iassumption

theorem store_out {c : Dev nD} {R : sProp 𝕄} {n : ℕ} {f w : FVec F S256x256 .f32} {hin : ∀ a, (![0, 0] : Fin 2 → Nat) a + S256x256.size a ≤ S256x256.size a}
    {hx : (aO.access (Rect.unit (s := S256x256) ![0, 0] S256x256.size hin)).Stores Finset.univ}
    {hm : Finset.univ = Finset.univ ∨ ∀ a, (Rect.unit (s := S256x256) ![0, 0] S256x256.size hin).stride a = 1}
    {α : Type} {k : PUnit → Prog (TpuEff nD τ sig (Elt F) Λ₀ .tc) α} {Q : α → sProp 𝕄}
    (h : phase m ρ K v6 v36 c R n w ⊢ WP c (k ⟨⟩) Q) :
    phase m ρ K v6 v36 c R n f ⊢ WP c (.op (.store aO (Rect.unit (s := S256x256) ![0, 0] S256x256.size hin) w Finset.univ hx hm) k) Q := by
  unfold phase outPts at *
  iintro ⟨Hr, Hx, Ho, HR⟩
  iapply (wp_store 𝒱₀ (c : Thread nD τ) none Set.univ (m := aO) (r := Rect.unit (s := S256x256) ![0, 0] S256x256.size hin) (Mk := Finset.univ) (Finset.subset_univ _)) $$ Ho; iintro Ho
  have e : (aO.access (Rect.unit (s := S256x256) ![0, 0] S256x256.size hin) : View sig .tc _ _ _).write (Elt F) f w Finset.univ = w :=
    Memref.write_access_unit_zero_univ (Elt F) cc0_stg4_0 (by decide) _ f w
  rw [e]
  iapply h
  isplitl [Hr]; · iexact Hr
  isplitl [Hx]; · iexact Hx
  isplitl [Ho] <;> iassumption

end Cert.MoeProof

end
-- ==== Proof.Parts.lean ====
/-
The parts of the kernel's body, one by one: the parts that store products, and the parts that wait for slots, load a group
and accumulate.
-/
module

public import proofs.«01_k».proof.Proof.Xg

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

set_option maxRecDepth 65536

theorem hX : aX.IsWhole := Memref.isWhole_whole _
theorem hR : aR.IsWhole := Memref.isWhole_whole _
theorem hI : aI.IsWhole := Memref.isWhole_whole _
theorem hW : aW.IsWhole := Memref.isWhole_whole _
theorem hO : aO.IsWhole := Memref.isWhole_whole _
theorem hM : xM.IsWhole := Memref.isWhole_whole _
theorem hG : gM.IsWhole := Memref.isWhole_whole _

/-! ## The parts that store products: each fills its blocks, whatever follows it

A block whose payload is begun in one part and stored in the next is given by the equation `hv`. -/

variable (v6 : FVec F S256x128 .bf16) (v36 : FVec F S256x64 .f32)

theorem part3_run {c : Dev nD} {R : sProp 𝕄} {α : Type} {Q : α → sProp 𝕄} (v74 : FVec F S256x128 .bf16) {kk : FVec F S256x128 .bf16 → Prog (TpuEff nD τ sig (Elt F) Λ₀ .tc) α} (hv : k0_pay11 v74 = xgBlk v6 v36 3)
    (h : iprop(xgSt v6 v36 c 8 ∗ R) ⊢ WP c (kk (k0_pay16 v6 v36)) Q) :
    iprop(xgSt v6 v36 c 3 ∗ R) ⊢ WP c (k0_part3 aX hX aR hR aI hI aW hW aO hO xM hM gM hG cc0_scratch2 cc0_scratch3 v6 v36 v74 >>= kk) Q := by
  rw [k0_part3_eq_skeleton]; unfold k0_part3_skel
  simp only [Prog.lift, Prog.bind_op, Prog.bind_ret, Prog.pure_eq_ret]
  refine xg_load v6 v36 fun _ => ?_
  refine xg_store v6 v36 (by decide) (by rfl) hv ?_
  iterate 4 (refine xg_load v6 v36 fun _ => ?_; refine xg_store v6 v36 (by decide) (by rfl) (by rfl) ?_)
  refine xg_load v6 v36 fun _ => ?_
  exact h

theorem part4_run {c : Dev nD} {R : sProp 𝕄} {α : Type} {Q : α → sProp 𝕄} (v117 : FVec F S256x128 .bf16) {kk : FVec F S256x128 .f32 → Prog (TpuEff nD τ sig (Elt F) Λ₀ .tc) α} (hv : v117 = xgBlk v6 v36 8)
    (h : iprop(xgSt v6 v36 c 14 ∗ R) ⊢ WP c (kk (k0_pay22 v6 v36)) Q) :
    iprop(xgSt v6 v36 c 8 ∗ R) ⊢ WP c (k0_part4 aX hX aR hR aI hI aW hW aO hO xM hM gM hG cc0_scratch2 cc0_scratch3 v6 v36 v117 >>= kk) Q := by
  rw [k0_part4_eq_skeleton]; unfold k0_part4_skel
  simp only [Prog.lift, Prog.bind_op, Prog.bind_ret, Prog.pure_eq_ret]
  refine xg_store v6 v36 (by decide) (by rfl) hv ?_
  iterate 5 (refine xg_load v6 v36 fun _ => ?_; refine xg_store v6 v36 (by decide) (by rfl) (by rfl) ?_)
  exact h

theorem part5_run {c : Dev nD} {R : sProp 𝕄} {α : Type} {Q : α → sProp 𝕄} (v161 : FVec F S256x128 .f32) {kk : FVec F S256x128 .bf16 → Prog (TpuEff nD τ sig (Elt F) Λ₀ .tc) α} (hv : k0_pay23 v161 = xgBlk v6 v36 14)
    (h : iprop(xgSt v6 v36 c 19 ∗ R) ⊢ WP c (kk (k0_pay28 v6 v36)) Q) :
    iprop(xgSt v6 v36 c 14 ∗ R) ⊢ WP c (k0_part5 aX hX aR hR aI hI aW hW aO hO xM hM gM hG cc0_scratch2 cc0_scratch3 v6 v36 v161 >>= kk) Q := by
  rw [k0_part5_eq_skeleton]; unfold k0_part5_skel
  simp only [Prog.lift, Prog.bind_op, Prog.bind_ret, Prog.pure_eq_ret]
  refine xg_load v6 v36 fun _ => ?_
  refine xg_store v6 v36 (by decide) (by rfl) hv ?_
  iterate 4 (refine xg_load v6 v36 fun _ => ?_; refine xg_store v6 v36 (by decide) (by rfl) (by rfl) ?_)
  refine xg_load v6 v36 fun _ => ?_
  exact h

theorem part6_run {c : Dev nD} {R : sProp 𝕄} {α : Type} {Q : α → sProp 𝕄} (v202 : FVec F S256x128 .bf16) {kk : (Σ' (v247 : FVec F S256x128 .f32), FVec F S256x128 .f32) → Prog (TpuEff nD τ sig (Elt F) Λ₀ .tc) α} (hv : k0_pay29 v202 = xgBlk v6 v36 19)
    (h : iprop(xgSt v6 v36 c 25 ∗ R) ⊢ WP c (kk ⟨k0_pay35 v6, k0_pay36 v36⟩) Q) :
    iprop(xgSt v6 v36 c 19 ∗ R) ⊢ WP c (k0_part6 aX hX aR hR aI hI aW hW aO hO xM hM gM hG cc0_scratch2 cc0_scratch3 v6 v36 v202 >>= kk) Q := by
  rw [k0_part6_eq_skeleton]; unfold k0_part6_skel
  simp only [Prog.lift, Prog.bind_op, Prog.bind_ret, Prog.pure_eq_ret]
  refine xg_store v6 v36 (by decide) (by rfl) hv ?_
  iterate 5 (refine xg_load v6 v36 fun _ => ?_; refine xg_store v6 v36 (by decide) (by rfl) (by rfl) ?_)
  exact h

theorem part7_run {c : Dev nD} {R : sProp 𝕄} {α : Type} {Q : α → sProp 𝕄} (v247 : FVec F S256x128 .f32) (v248 : FVec F S256x128 .f32) {kk : (Σ' (v290 : FVec F S256x128 .bf16), Vec F S256x128 .bf16) → Prog (TpuEff nD τ sig (Elt F) Λ₀ .tc) α} (hv : k0_pay37 v247 v248 = xgBlk v6 v36 25)
    (h : ∀ v, iprop(xgSt v6 v36 c 30 ∗ R) ⊢ WP c (kk ⟨k0_pay42 v6 v36, v⟩) Q) :
    iprop(xgSt v6 v36 c 25 ∗ R) ⊢ WP c (k0_part7 aX hX aR hR aI hI aW hW aO hO xM hM gM hG cc0_scratch2 cc0_scratch3 v6 v36 v247 v248 >>= kk) Q := by
  rw [k0_part7_eq_skeleton]; unfold k0_part7_skel
  simp only [Prog.lift, Prog.bind_op, Prog.bind_ret, Prog.pure_eq_ret]
  refine xg_load v6 v36 fun _ => ?_
  refine xg_store v6 v36 (by decide) (by rfl) hv ?_
  iterate 4 (refine xg_load v6 v36 fun _ => ?_; refine xg_store v6 v36 (by decide) (by rfl) (by rfl) ?_)
  refine xg_load v6 v36 fun _ => ?_
  exact h _

theorem part8_run {c : Dev nD} {R : sProp 𝕄} {α : Type} {Q : α → sProp 𝕄} (v290 : FVec F S256x128 .bf16) (v291 : Vec F S256x128 .bf16) {kk : (Σ' (v334 : FVec F S256x1 .f32), FVec F S256x128 .f32) → Prog (TpuEff nD τ sig (Elt F) Λ₀ .tc) α} (hv : k0_pay43 v290 = xgBlk v6 v36 30)
    (h : iprop(xgSt v6 v36 c 36 ∗ R) ⊢ WP c (kk ⟨k0_pay49 v36, k0_pay50 v6⟩) Q) :
    iprop(xgSt v6 v36 c 30 ∗ R) ⊢ WP c (k0_part8 aX hX aR hR aI hI aW hW aO hO xM hM gM hG cc0_scratch2 cc0_scratch3 v6 v36 v290 v291 >>= kk) Q := by
  rw [k0_part8_eq_skeleton]; unfold k0_part8_skel
  simp only [Prog.lift, Prog.bind_op, Prog.bind_ret, Prog.pure_eq_ret]
  refine xg_store v6 v36 (by decide) (by rfl) hv ?_
  iterate 5 (refine xg_load v6 v36 fun _ => ?_; refine xg_store v6 v36 (by decide) (by rfl) (by rfl) ?_)
  exact h

theorem part9_run {c : Dev nD} {R : sProp 𝕄} {α : Type} {Q : α → sProp 𝕄} (v334 : FVec F S256x1 .f32) (v335 : FVec F S256x128 .f32) {kk : FVec F S256x128 .bf16 → Prog (TpuEff nD τ sig (Elt F) Λ₀ .tc) α} (hv : k0_pay51 v334 v335 = xgBlk v6 v36 36)
    (h : iprop(xgSt v6 v36 c 41 ∗ R) ⊢ WP c (kk (k0_pay56 v6 v36)) Q) :
    iprop(xgSt v6 v36 c 36 ∗ R) ⊢ WP c (k0_part9 aX hX aR hR aI hI aW hW aO hO xM hM gM hG cc0_scratch2 cc0_scratch3 v6 v36 v334 v335 >>= kk) Q := by
  rw [k0_part9_eq_skeleton]; unfold k0_part9_skel
  simp only [Prog.lift, Prog.bind_op, Prog.bind_ret, Prog.pure_eq_ret]
  refine xg_load v6 v36 fun _ => ?_
  refine xg_store v6 v36 (by decide) (by rfl) hv ?_
  iterate 4 (refine xg_load v6 v36 fun _ => ?_; refine xg_store v6 v36 (by decide) (by rfl) (by rfl) ?_)
  exact h

theorem part10_run {c : Dev nD} {R : sProp 𝕄} {α : Type} {Q : α → sProp 𝕄} (v378 : FVec F S256x128 .bf16) {kk : FVec F S256x1 .f32 → Prog (TpuEff nD τ sig (Elt F) Λ₀ .tc) α} (hv : k0_pay57 v378 = xgBlk v6 v36 41)
    (h : iprop(xgSt v6 v36 c 47 ∗ R) ⊢ WP c (kk (k0_pay63 v36)) Q) :
    iprop(xgSt v6 v36 c 41 ∗ R) ⊢ WP c (k0_part10 aX hX aR hR aI hI aW hW aO hO xM hM gM hG cc0_scratch2 cc0_scratch3 v6 v36 v378 >>= kk) Q := by
  rw [k0_part10_eq_skeleton]; unfold k0_part10_skel
  simp only [Prog.lift, Prog.bind_op, Prog.bind_ret, Prog.pure_eq_ret]
  refine xg_load v6 v36 fun _ => ?_
  refine xg_store v6 v36 (by decide) (by rfl) hv ?_
  iterate 5 (refine xg_load v6 v36 fun _ => ?_; refine xg_store v6 v36 (by decide) (by rfl) (by rfl) ?_)
  exact h

theorem part11_run {c : Dev nD} {R : sProp 𝕄} {α : Type} {Q : α → sProp 𝕄} (v422 : FVec F S256x1 .f32) {kk : FVec F S256x128 .bf16 → Prog (TpuEff nD τ sig (Elt F) Λ₀ .tc) α} (hv : k0_pay64 v6 v422 = xgBlk v6 v36 47)
    (h : iprop(xgSt v6 v36 c 52 ∗ R) ⊢ WP c (kk (k0_pay69 v6 v36)) Q) :
    iprop(xgSt v6 v36 c 47 ∗ R) ⊢ WP c (k0_part11 aX hX aR hR aI hI aW hW aO hO xM hM gM hG cc0_scratch2 cc0_scratch3 v6 v36 v422 >>= kk) Q := by
  rw [k0_part11_eq_skeleton]; unfold k0_part11_skel
  simp only [Prog.lift, Prog.bind_op, Prog.bind_ret, Prog.pure_eq_ret]
  refine xg_load v6 v36 fun _ => ?_
  refine xg_store v6 v36 (by decide) (by rfl) hv ?_
  iterate 4 (refine xg_load v6 v36 fun _ => ?_; refine xg_store v6 v36 (by decide) (by rfl) (by rfl) ?_)
  exact h

theorem part12_run {c : Dev nD} {R : sProp 𝕄} {α : Type} {Q : α → sProp 𝕄} (v466 : FVec F S256x128 .bf16) {kk : PUnit → Prog (TpuEff nD τ sig (Elt F) Λ₀ .tc) α} (hv : k0_pay70 v466 = xgBlk v6 v36 52)
    (h : iprop(xgSt v6 v36 c 58 ∗ R) ⊢ WP c (kk ⟨⟩) Q) :
    iprop(xgSt v6 v36 c 52 ∗ R) ⊢ WP c (k0_part12 aX hX aR hR aI hI aW hW aO hO xM hM gM hG cc0_scratch2 cc0_scratch3 v6 v36 v466 >>= kk) Q := by
  rw [k0_part12_eq_skeleton]; unfold k0_part12_skel
  simp only [Prog.lift, Prog.bind_op, Prog.bind_ret, Prog.pure_eq_ret]
  refine xg_load v6 v36 fun _ => ?_
  refine xg_store v6 v36 (by decide) (by rfl) hv ?_
  iterate 5 (refine xg_load v6 v36 fun _ => ?_; refine xg_store v6 v36 (by decide) (by rfl) (by rfl) ?_)
  exact h

theorem part13_run {c : Dev nD} {R : sProp 𝕄} {α : Type} {Q : α → sProp 𝕄} {kk : FVec F S256x128 .bf16 → Prog (TpuEff nD τ sig (Elt F) Λ₀ .tc) α}
    (h : iprop(xgSt v6 v36 c 63 ∗ R) ⊢ WP c (kk (k0_pay81 v6 v36)) Q) :
    iprop(xgSt v6 v36 c 58 ∗ R) ⊢ WP c (k0_part13 aX hX aR hR aI hI aW hW aO hO xM hM gM hG cc0_scratch2 cc0_scratch3 v6 v36 >>= kk) Q := by
  rw [k0_part13_eq_skeleton]; unfold k0_part13_skel
  simp only [Prog.lift, Prog.bind_op, Prog.bind_ret, Prog.pure_eq_ret]
  refine xg_load v6 v36 fun _ => ?_
  refine xg_store v6 v36 (by decide) (by rfl) (by rfl) ?_
  iterate 4 (refine xg_load v6 v36 fun _ => ?_; refine xg_store v6 v36 (by decide) (by rfl) (by rfl) ?_)
  exact h

/-! ## The parts that wait, load a group and accumulate -/

variable {m ρ K v6 v36}

theorem part14_run {c : Dev nD} {R : sProp 𝕄} {α : Type} {Q : α → sProp 𝕄} {f : FVec F S256x256 .f32} {v2 : BitVec 32} (hv2 : v2 = numW c) (v554 : FVec F S256x128 .bf16)
    {kk : (Σ' (v582 : Vec F S256x2048 .bf16), Vec F S2048x256 .bf16) → Prog (TpuEff nD τ sig (Elt F) Λ₀ .tc) α} (hv : k0_pay82 v554 = xgBlk v6 v36 63)
    (h : phase m ρ K v6 v36 c R 8 f ⊢ WP c (kk ⟨xgOf v6 v36 0, wtsOf m ρ 0⟩) Q) :
    iprop(xgSt v6 v36 c 63 ∗ recvSt m ρ K c 0 ∗ outPts c f ∗ R) ⊢ WP c (k0_part14 aX hX aR hR aI hI aW hW aO hO xM hM gM hG cc0_scratch2 cc0_scratch3 v2 v554 >>= kk) Q := by
  rw [k0_part14_eq_skeleton]; unfold k0_part14_skel
  simp only [Prog.lift, Prog.bind_op, Prog.bind_ret, Prog.pure_eq_ret, Prog.bind_assoc, guarded_eq, guarded_bind]
  refine xg_load v6 v36 fun _ => ?_
  refine xg_store v6 v36 (e := 63) (by decide) (by rfl) hv ?_
  have e : iprop(xgSt v6 v36 c 64 ∗ recvSt m ρ K c 0 ∗ outPts c f ∗ R) ⊢ phase m ρ K v6 v36 c R 0 f := by
    unfold phase
    iintro ⟨Hx, Hr, HR⟩
    isplitl [Hr]; · iexact Hr
    isplitl [Hx] <;> iassumption
  refine e.trans ?_
  iterate 8 refine recv_step (by decide) hv2 (by rfl) ?_
  refine load_xg 0 (by rfl) ?_
  refine load_wts 0 (by decide) (by rfl) ?_
  exact h

theorem part15_run {c : Dev nD} {R : sProp 𝕄} {α : Type} {Q : α → sProp 𝕄} {f : FVec F S256x256 .f32} {v2 : BitVec 32} (hv2 : v2 = numW c) (v582 : Vec F S256x2048 .bf16) (v583 : Vec F S2048x256 .bf16)
    {kk : (Σ' (v610 : Vec F S256x2048 .bf16), Vec F S2048x256 .bf16) → Prog (TpuEff nD τ sig (Elt F) Λ₀ .tc) α}
    (h : phase m ρ K v6 v36 c R 16 (k0_pay83 v582 v583) ⊢ WP c (kk ⟨xgOf v6 v36 1, wtsOf m ρ 1⟩) Q) :
    phase m ρ K v6 v36 c R 8 f ⊢ WP c (k0_part15 aX hX aR hR aI hI aW hW aO hO xM hM gM hG cc0_scratch2 cc0_scratch3 v2 v582 v583 >>= kk) Q := by
  rw [k0_part15_eq_skeleton]; unfold k0_part15_skel
  simp only [Prog.lift, Prog.bind_op, Prog.bind_ret, Prog.pure_eq_ret, Prog.bind_assoc, guarded_eq, guarded_bind]
  refine load_out ?_
  refine store_out ?_
  iterate 8 refine recv_step (by decide) hv2 (by rfl) ?_
  refine load_xg 1 (by rfl) ?_
  refine load_wts 1 (by decide) (by rfl) ?_
  exact h

theorem part16_run {c : Dev nD} {R : sProp 𝕄} {α : Type} {Q : α → sProp 𝕄} {f : FVec F S256x256 .f32} {v2 : BitVec 32} (hv2 : v2 = numW c) (v610 : Vec F S256x2048 .bf16) (v611 : Vec F S2048x256 .bf16)
    {kk : PUnit → Prog (TpuEff nD τ sig (Elt F) Λ₀ .tc) α}
    (h : phase m ρ K v6 v36 c R 24 (k0_pay84 v610 v611 f) ⊢ WP c (kk ⟨⟩) Q) :
    phase m ρ K v6 v36 c R 16 f ⊢ WP c (k0_part16 aX hX aR hR aI hI aW hW aO hO xM hM gM hG cc0_scratch2 cc0_scratch3 v2 v610 v611 >>= kk) Q := by
  rw [k0_part16_eq_skeleton]; unfold k0_part16_skel
  simp only [Prog.lift, Prog.bind_op, Prog.bind_ret, Prog.pure_eq_ret, Prog.bind_assoc, guarded_eq, guarded_bind]
  refine load_out ?_
  refine load_out ?_
  refine store_out ?_
  iterate 8 refine recv_step (by decide) hv2 (by rfl) ?_
  exact h

theorem part17_run {c : Dev nD} {R : sProp 𝕄} {α : Type} {Q : α → sProp 𝕄} {f : FVec F S256x256 .f32} {v2 : BitVec 32} (hv2 : v2 = numW c)
    {kk : BitVec 1 → Prog (TpuEff nD τ sig (Elt F) Λ₀ .tc) α}
    (h : phase m ρ K v6 v36 c R 31 (k0_pay85 (xgOf v6 v36 2) (wtsOf m ρ 2) f) ⊢ WP c (kk (Scalar.cmpi .ne v2 31#32)) Q) :
    phase m ρ K v6 v36 c R 24 f ⊢ WP c (k0_part17 aX hX aR hR aI hI aW hW aO hO xM hM gM hG cc0_scratch2 cc0_scratch3 v2 >>= kk) Q := by
  rw [k0_part17_eq_skeleton]; unfold k0_part17_skel
  simp only [Prog.lift, Prog.bind_op, Prog.bind_ret, Prog.pure_eq_ret, Prog.bind_assoc, guarded_eq, guarded_bind]
  refine load_xg 2 (by rfl) ?_
  refine load_wts 2 (by decide) (by rfl) ?_
  refine load_out ?_
  refine load_out ?_
  refine store_out ?_
  iterate 7 refine recv_step (by decide) hv2 (by rfl) ?_
  exact h

end Cert.MoeProof

end
-- ==== Proof.Open.lean ====
/-
The two opening parts of the kernel's body: the barrier with the loads of the operands, then the own chunk stored and
sent, and the first three products.
-/
module

public import proofs.«01_k».proof.Proof.Parts

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

set_option maxRecDepth 65536

/-! ## The operands as staged, and what the opening parts compute of them -/

/-- Device `c`'s tokens, the routing weights, and its routed experts' numbers, as staged. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg1))
def istg (c : Dev nD) : (cc0_stg2_0 : Ref sig .tc).ty.Contents (Elt F) :=
  (win0_2.blk (0 : Fin 1)).view.read (Elt F) ((s₀ m ρ).mem ((c : Thread nD τ).loc main_arg2))

/-- The two columns of the experts' numbers. -/
def icol0 (c : Dev nD) : Vec F S256x1 .i32 :=
  aI.view.readAt (Elt F) (Rect.unit (s := S256x2) ![0, 0] S256x1.size inb_S256x2_S256x1_0_0).toLoadRect (istg m ρ c)
def icol1 (c : Dev nD) : Vec F S256x1 .i32 :=
  aI.view.readAt (Elt F) (Rect.unit (s := S256x2) ![0, 1] S256x1.size inb_S256x2_S256x1_0_1).toLoadRect (istg m ρ c)

/-- The tokens, the masked probabilities and their row sums, as the later parts take them. -/
def xv (c : Dev nD) : FVec F S256x128 .bf16 := k0_pay2 (xstg m ρ c)
def pv (c : Dev nD) : FVec F S256x64 .f32 := k0_pay3 (xstg m ρ c) (rstg m ρ c) (icol0 m ρ c) (icol1 m ρ c)
def sv (c : Dev nD) : FVec F S256x1 .f32 := k0_pay4 (xstg m ρ c) (rstg m ρ c) (icol0 m ρ c) (icol1 m ρ c)
/-- The normalised weights. -/
def wv (c : Dev nD) : FVec F S256x64 .f32 := k0_pay5 (pv m ρ c) (sv m ρ c)

/-- The four operands' staging buffers. -/
def ins (c : Dev nD) : sProp 𝕄 :=
  iprop((((c : Thread nD τ).loc cc0_stg0_0) ↦{fullShare} xstg m ρ c) ∗ (((c : Thread nD τ).loc cc0_stg1_0) ↦{fullShare} rstg m ρ c)
    ∗ (((c : Thread nD τ).loc cc0_stg2_0) ↦{fullShare} istg m ρ c) ∗ (((c : Thread nD τ).loc cc0_stg3_0) ↦{fullShare} wstg m ρ c))

/-- What the barrier wait takes. -/
def barIn (c : Dev nD) : sProp 𝕄 := iprop(levAts L lv ∗ cred (tallyAt (barCell c) () 31) ∗ atPos ER (barCell c) 0 ∅ 0)

/-- What a device holds after its barrier: on every other device, the slot with its own number. -/
def opened (c : Dev nD) : sProp 𝕄 :=
  iprop(records m ρ K ∗ (∃ W, owes (c : Thread nD τ) (owesRecv c (Finset.univ.erase c)) W) ∗ atPos ER (barCell c) (0 + 1) ∅ 0
    ∗ bigSep (Finset.univ.erase c) fun d => iprop(∃ f, slotPts (F := F) d c fullShare f))

/-- The barrier wait. -/
theorem wp_bar (c : Dev nD) (W : Waits sig Unit) {α : Type} {k : PUnit → Prog (TpuEff nD τ sig (Elt F) Λ₀ .tc) α} {Q : α → sProp 𝕄} :
    iprop(sigInv m ρ K c W 31 ∗ barIn c) ⊢ iprop((opened m ρ K c -∗ WP c (k ⟨⟩) Q) -∗ WP c (.op (.semWait barS 31) k) Q) := by
  unfold sigInv barIn opened
  rw [todo_last]
  iintro ⟨⟨#HR, HO, -, -⟩, #Hlev, Hc, Hat⟩ Hk
  have e : owesRecv c (Finset.univ.erase c) + owesBar (∅ : Finset (Dev nD)) = owesRecv c (Finset.univ.erase c) := by
    unfold owesBar; rw [Finset.sum_empty, add_zero]
  rw [e]
  iapply (Rounds.wp_wait_rest_token 𝒱₀ ER (moeRd m ρ) (c : Thread nD τ) none (κ := K (kBar c))
      (wpE_semWait_eq 𝒱₀ (c : Thread nD τ) none Set.univ) (Set.mem_univ _) () (O := owesRecv c (Finset.univ.erase c)) (W := W) (R := 0) (m := 0) (T := ∅)
      (by rw [expect_bar])) $$ [Hc HO Hat]
  · isplitr; · iapply (inv_of m ρ K (kBar c)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitr; · iexact HR
  isplitl [HO]; · iexists _; iexact HO
  isplitl [Hat] <;> iassumption

variable {m ρ K}

theorem part1_run {c : Dev nD} {R : sProp 𝕄} {W : Waits sig Unit} {α : Type} {Q : α → sProp 𝕄}
    {kk : (Σ' (d0 : Dev nD) (v2 : BitVec 32) (v6 : FVec F S256x128 .bf16) (v32 : FVec F S256x64 .f32), FVec F S256x1 .f32) → Prog (TpuEff nD τ sig (Elt F) Λ₀ .tc) α}
    (h : iprop(opened m ρ K c ∗ ins m ρ c ∗ R) ⊢ WP c (kk ⟨c, numW c, xv m ρ c, pv m ρ c, sv m ρ c⟩) Q) :
    iprop(sigInv m ρ K c W 0 ∗ barIn c ∗ ins m ρ c ∗ R) ⊢ WP c (k0_part1 aX hX aR hR aI hI aW hW aO hO xM hM gM hG cc0_scratch2 cc0_scratch3 >>= kk) Q := by
  rw [k0_part1_eq_skeleton]; unfold k0_part1_skel
  simp only [semWaitWord, Prog.lift, Prog.bind_op, Prog.bind_ret, Prog.pure_eq_ret, wp_deviceId, Prog.bind_assoc]
  iintro ⟨Hs, Hb, Hi, HR⟩
  iapply (wp_signals m ρ K c W) $$ Hs
  iintro Hs
  iapply (wp_bar m ρ K c W) $$ [Hs Hb]
  · isplitl [Hs] <;> iassumption
  iintro Ho
  unfold ins at *
  icases Hi with ⟨H0, H1, H2, H3⟩
  iapply (wp_load 𝒱₀ (c : Thread nD τ) none Set.univ (m := aX) (Finset.subset_univ _)) $$ H0; iintro H0
  iapply (wp_load 𝒱₀ (c : Thread nD τ) none Set.univ (m := aR) (Finset.subset_univ _)) $$ H1; iintro H1
  iapply (wp_load 𝒱₀ (c : Thread nD τ) none Set.univ (m := aI) (Finset.subset_univ _)) $$ H2; iintro H2
  iapply (wp_load 𝒱₀ (c : Thread nD τ) none Set.univ (m := aI) (Finset.subset_univ _)) $$ H2; iintro H2
  have e0 : aX.view.readAt (Elt F) (Rect.unit (s := S256x128) ![0, 0] S256x128.size inb_S256x128_S256x128_0_0).toLoadRect (xstg m ρ c) = xstg m ρ c :=
    Memref.readAt_unit_zero (Elt F) cc0_stg0_0 (by decide) _ _
  have e1 : aR.view.readAt (Elt F) (Rect.unit (s := S128x64) ![0, 0] S128x64.size inb_S128x64_S128x64_0_0).toLoadRect (rstg m ρ c) = rstg m ρ c :=
    Memref.readAt_unit_zero (Elt F) cc0_stg1_0 (by decide) _ _
  rw [e0, e1]
  iapply h
  isplitl [Ho]; · iexact Ho
  isplitr [HR]
  · isplitl [H0]; · iexact H0
    isplitl [H1]; · iexact H1
    isplitl [H2] <;> iassumption
  iexact HR

/-- The own slot loaded (the value is not used), -/
theorem wp_own_load {c : Dev nD} {off : Fin 2 → Nat} (hoff : off = ![256 * c.val, 0]) {hin : ∀ a, off a + S256x256.size a ≤ S8192x256.size a}
    {hl : xM.view.LoadsAt (Rect.unit (s := S8192x256) off S256x256.size hin).toLoadRect} {α : Type}
    {k : (S256x256.Idx → Elt F .bf16) → Prog (TpuEff nD τ sig (Elt F) Λ₀ .tc) α} {Q : α → sProp 𝕄} (f : (cc0_scratch0 : Ref sig .tc).ty.Contents (Elt F)) :
    slotPts c c fullShare f ⊢ iprop((∀ v, slotPts c c fullShare f -∗ WP c (k v) Q)
      -∗ WP c (.op (.load xM (Rect.unit (s := S8192x256) off S256x256.size hin).toLoadRect hl) k) Q) := by
  subst hoff
  have hs : xM.view.setOn (slotR c).set ⊆ (slotM c).view.set := by
    intro i hi
    rw [View.setOn, Finset.mem_map] at hi
    obtain ⟨j, hj, rfl⟩ := hi
    rw [show (slotM c).view.set = (slotR c).set from slotS_eq c]
    exact hj
  unfold slotPts
  iintro H Hk
  iapply (wp_load 𝒱₀ (c : Thread nD τ) none Set.univ (m := xM) hs) $$ H; iintro H
  iapply Hk; iexact H

/-- and stored with the device's own chunk. -/
theorem wp_own_store {c : Dev nD} {off : Fin 2 → Nat} (hoff : off = ![256 * c.val, 0]) {hin : ∀ a, off a + S256x256.size a ≤ S8192x256.size a}
    {hx : (xM.access (Rect.unit (s := S8192x256) off S256x256.size hin)).Stores Finset.univ}
    {hm : Finset.univ = Finset.univ ∨ ∀ a, (Rect.unit (s := S8192x256) off S256x256.size hin).stride a = 1} {α : Type}
    {k : PUnit → Prog (TpuEff nD τ sig (Elt F) Λ₀ .tc) α} {Q : α → sProp 𝕄} (f : (cc0_scratch0 : Ref sig .tc).ty.Contents (Elt F)) :
    slotPts c c fullShare f ⊢ iprop((slotPts c c fullShare (commAll m ρ) -∗ WP c (k ⟨⟩) Q)
      -∗ WP c (.op (.store xM (Rect.unit (s := S8192x256) off S256x256.size hin) (k0_pay6 (wstg m ρ c)) Finset.univ hx hm) k) Q) := by
  subst hoff
  have e := slot_stored m ρ c c fullShare f
  have hs : (xM.access (slotR c) : View sig .tc _ _ _).setOn Finset.univ ⊆ (slotM c).view.set := Finset.Subset.refl _
  unfold slotPts at *
  iintro H Hk
  iapply (wp_store 𝒱₀ (c : Thread nD τ) none Set.univ (m := xM) (r := slotR c) (Mk := Finset.univ) hs) $$ H; iintro H
  iapply Hk
  iapply (Entails.of_eq e); iexact H

/-- What the second part starts from: the barrier passed, the tokens of the transfers, the own slot. -/
def sendIn (c : Dev nD) : sProp 𝕄 :=
  iprop((bigSep (Finset.univ.erase c) fun d => dutyTok ER (sendCell c d) 0 c) ∗ (bigSep (Finset.univ.erase c) fun d => dutyTok ER (recvCell d c) 0 d)
    ∗ ∃ f, slotPts (F := F) c c fullShare f)

/-- What it leaves: the own slot's left half, and the credits of the transfers. -/
def sent (m : (ℓ : Loc nD τ sig) → Buf (Elt F) ℓ) (ρ : Dev nD → PrngReg) (K : Dev nD × CK → ℕ) (c : Dev nD) : sProp 𝕄 :=
  iprop(records m ρ K ∗ (∃ W, owes (c : Thread nD τ) 0 W) ∗ slotPts c c fullShare.left (commAll m ρ)
    ∗ bigSep (Finset.univ.erase c) fun d => cred (tallyAt (sendCell c d) () N))

/-- The load of the device's own two experts' weights, before anything. -/
theorem wts_load {c : Dev nD} {R : sProp 𝕄} {hin : ∀ a, (![0, 0, 0] : Fin 3 → Nat) a + S2x128x256.size a ≤ S2x128x256.size a}
    {hl : aW.view.LoadsAt (Rect.unit (s := S2x128x256) ![0, 0, 0] S2x128x256.size hin).toLoadRect}
    {α : Type} {k : (S2x128x256.Idx → Elt F .bf16) → Prog (TpuEff nD τ sig (Elt F) Λ₀ .tc) α} {Q : α → sProp 𝕄}
    (h : iprop(ins m ρ c ∗ R) ⊢ WP c (k (wstg m ρ c)) Q) :
    iprop(ins m ρ c ∗ R) ⊢ WP c (.op (.load aW (Rect.unit (s := S2x128x256) ![0, 0, 0] S2x128x256.size hin).toLoadRect hl) k) Q := by
  unfold ins at *
  iintro ⟨⟨H0, H1, H2, H3⟩, HR⟩
  iapply (wp_load 𝒱₀ (c : Thread nD τ) none Set.univ (m := aW) (Finset.subset_univ _)) $$ H3; iintro H3
  have e3 : aW.view.readAt (Elt F) (Rect.unit (s := S2x128x256) ![0, 0, 0] S2x128x256.size hin).toLoadRect (wstg m ρ c) = wstg m ρ c :=
    Memref.readAt_unit_zero (Elt F) cc0_stg3_0 (by decide) _ _
  rw [e3]
  iapply h
  isplitr [HR]
  · isplitl [H0]; · iexact H0
    isplitl [H1]; · iexact H1
    isplitl [H2] <;> iassumption
  iexact HR

/-- The own slot loaded, stored and lent, whatever is beside it, -/
theorem own_load {c : Dev nD} {R : sProp 𝕄} {off : Fin 2 → Nat} (hoff : off = ![256 * c.val, 0]) {hin : ∀ a, off a + S256x256.size a ≤ S8192x256.size a}
    {hl : xM.view.LoadsAt (Rect.unit (s := S8192x256) off S256x256.size hin).toLoadRect} {α : Type}
    {k : (S256x256.Idx → Elt F .bf16) → Prog (TpuEff nD τ sig (Elt F) Λ₀ .tc) α} {Q : α → sProp 𝕄}
    (h : ∀ v, iprop((∃ f, slotPts c c fullShare f) ∗ R) ⊢ WP c (k v) Q) :
    iprop((∃ f, slotPts c c fullShare f) ∗ R) ⊢ WP c (.op (.load xM (Rect.unit (s := S8192x256) off S256x256.size hin).toLoadRect hl) k) Q := by
  iintro ⟨⟨%f, Hs⟩, HR⟩
  iapply (wp_own_load hoff f) $$ Hs; iintro %v Hs
  iapply (h v)
  isplitl [Hs]; · iexists f; iexact Hs
  iexact HR
theorem own_store {c : Dev nD} {R : sProp 𝕄} {off : Fin 2 → Nat} (hoff : off = ![256 * c.val, 0]) {hin : ∀ a, off a + S256x256.size a ≤ S8192x256.size a}
    {hx : (xM.access (Rect.unit (s := S8192x256) off S256x256.size hin)).Stores Finset.univ}
    {hm : Finset.univ = Finset.univ ∨ ∀ a, (Rect.unit (s := S8192x256) off S256x256.size hin).stride a = 1} {α : Type}
    {k : PUnit → Prog (TpuEff nD τ sig (Elt F) Λ₀ .tc) α} {Q : α → sProp 𝕄}
    (h : iprop(slotPts c c fullShare (commAll m ρ) ∗ R) ⊢ WP c (k ⟨⟩) Q) :
    iprop((∃ f, slotPts c c fullShare f) ∗ R)
      ⊢ WP c (.op (.store xM (Rect.unit (s := S8192x256) off S256x256.size hin) (k0_pay6 (wstg m ρ c)) Finset.univ hx hm) k) Q := by
  iintro ⟨⟨%f, Hs⟩, HR⟩
  iapply (wp_own_store (m := m) (ρ := ρ) hoff f) $$ Hs; iintro Hs
  iapply h
  isplitl [Hs] <;> iassumption

/-- and the transfers. -/
theorem sends_run {c : Dev nD} {R : sProp 𝕄} {v2 : BitVec 32} {v6 : FVec F S256x128 .bf16} {v32 : FVec F S256x64 .f32} {v34 : FVec F S256x1 .f32} {α : Type}
    {kk : Unit → Prog (TpuEff nD τ sig (Elt F) Λ₀ .tc) α} {Q : α → sProp 𝕄}
    (h : iprop(sent m ρ K c ∗ R) ⊢ WP c (kk ⟨⟩) Q) :
    iprop(slotPts c c fullShare (commAll m ρ) ∗ records m ρ K ∗ (∃ W, owes (c : Thread nD τ) (owesRecv c (Finset.univ.erase c)) W)
        ∗ (bigSep (Finset.univ.erase c) fun d => iprop(∃ f, slotPts (F := F) d c fullShare f))
        ∗ (bigSep (Finset.univ.erase c) fun d => dutyTok ER (sendCell c d) 0 c) ∗ (bigSep (Finset.univ.erase c) fun d => dutyTok ER (recvCell d c) 0 d) ∗ R)
      ⊢ WP c (Scf.Loop.for k0_t2_loop k0_t2_ok ⟨⟩ (k0_t2_body aX hX aR hR aI hI aW hW aO hO xM hM gM hG cc0_scratch2 cc0_scratch3 c v2 v6 v32 v34) >>= kk) Q := by
  iintro ⟨Hown, #HR', ⟨%W, HO⟩, Hsl, Ht1, Ht2, HR⟩
  ihave Hown := (Entails.of_eq (slot_halves c c (commAll m ρ))) $$ Hown
  icases Hown with ⟨Hl, Hr⟩
  ihave Hr := (Entails.of_eq (slot_lent c (commAll m ρ))) $$ Hr
  iapply (wp_sends m ρ K c W v2 v6 v32 v34) $$ [HO Hr Hsl Ht1 Ht2]
  · unfold sendInv
    rw [todo_zero, done_zero]
    isplitr; · iexact HR'
    isplitl [HO]; · iexact HO
    isplitl [Hr]; · iexact Hr
    isplitl [Hsl]; · iexact Hsl
    isplitl [Ht1]; · iexact Ht1
    isplitl [Ht2]; · iexact Ht2
    rw [bigSep_empty]; iempintro
  iintro Hsend
  iapply h
  isplitl [Hl Hsend]
  · unfold sendInv sent
    rw [todo_last, done_last]
    icases Hsend with ⟨-, HO, -, -, -, -, Hc⟩
    isplitr; · iexact HR'
    isplitl [HO]
    · iexists W
      have e0 : owesRecv c (∅ : Finset (Dev nD)) = 0 := by unfold owesRecv; rw [Finset.sum_empty]
      rw [e0]; iexact HO
    isplitl [Hl] <;> iassumption
  iexact HR

theorem part2_run {c : Dev nD} {R : sProp 𝕄} {v2 : BitVec 32} {α : Type} {Q : α → sProp 𝕄}
    {kk : (Σ' (v36 : FVec F S256x64 .f32), FVec F S256x128 .bf16) → Prog (TpuEff nD τ sig (Elt F) Λ₀ .tc) α}
    (h : iprop(xgSt (xv m ρ c) (wv m ρ c) c 3 ∗ sent m ρ K c ∗ atPos ER (barCell c) (0 + 1) ∅ 0 ∗ ins m ρ c ∗ R)
      ⊢ WP c (kk ⟨wv m ρ c, k0_pay10 (xv m ρ c) (pv m ρ c) (sv m ρ c)⟩) Q) :
    iprop(opened m ρ K c ∗ ins m ρ c ∗ sendIn c ∗ (∃ f, ((c : Thread nD τ).loc cc0_scratch1) ↦{fullShare} f) ∗ R)
      ⊢ WP c (k0_part2 aX hX aR hR aI hI aW hW aO hO xM hM gM hG cc0_scratch2 cc0_scratch3 c v2 (xv m ρ c) (pv m ρ c) (sv m ρ c) >>= kk) Q := by
  rw [k0_part2_eq_skeleton]; unfold k0_part2_skel
  simp only [Prog.lift, Prog.bind_op, Prog.bind_ret, Prog.pure_eq_ret, Prog.bind_assoc]
  have e1 : iprop(opened m ρ K c ∗ ins m ρ c ∗ sendIn c ∗ (∃ f, ((c : Thread nD τ).loc cc0_scratch1) ↦{fullShare} f) ∗ R)
      ⊢ iprop(ins m ρ c ∗ opened m ρ K c ∗ sendIn c ∗ (∃ f, ((c : Thread nD τ).loc cc0_scratch1) ↦{fullShare} f) ∗ R) := by
    iintro ⟨H1, H2, H3⟩
    isplitl [H2]; · iexact H2
    isplitl [H1] <;> iassumption
  refine e1.trans (wts_load ?_)
  have e2 : iprop(ins m ρ c ∗ opened m ρ K c ∗ sendIn c ∗ (∃ f, ((c : Thread nD τ).loc cc0_scratch1) ↦{fullShare} f) ∗ R)
      ⊢ iprop((∃ f, slotPts c c fullShare f) ∗ records m ρ K ∗ (∃ W, owes (c : Thread nD τ) (owesRecv c (Finset.univ.erase c)) W)
        ∗ (bigSep (Finset.univ.erase c) fun d => iprop(∃ f, slotPts (F := F) d c fullShare f))
        ∗ (bigSep (Finset.univ.erase c) fun d => dutyTok ER (sendCell c d) 0 c) ∗ (bigSep (Finset.univ.erase c) fun d => dutyTok ER (recvCell d c) 0 d)
        ∗ ((∃ f, ((c : Thread nD τ).loc cc0_scratch1) ↦{fullShare} f) ∗ atPos ER (barCell c) (0 + 1) ∅ 0 ∗ ins m ρ c ∗ R)) := by
    unfold opened sendIn
    iintro ⟨Hi, ⟨HR', HO, Hat, Hsl⟩, ⟨Ht1, Ht2, Hown⟩, Hx, HR⟩
    isplitl [Hown]; · iexact Hown
    isplitl [HR']; · iexact HR'
    isplitl [HO]; · iexact HO
    isplitl [Hsl]; · iexact Hsl
    isplitl [Ht1]; · iexact Ht1
    isplitl [Ht2]; · iexact Ht2
    isplitl [Hx]; · iexact Hx
    isplitl [Hat]; · iexact Hat
    isplitl [Hi] <;> iassumption
  refine e2.trans ?_
  refine own_load (off1_eq c) fun _ => ?_
  refine own_store (off1_eq c) ?_
  refine sends_run ?_
  have e3 : iprop(sent m ρ K c ∗ (∃ f, ((c : Thread nD τ).loc cc0_scratch1) ↦{fullShare} f) ∗ atPos ER (barCell c) (0 + 1) ∅ 0 ∗ ins m ρ c ∗ R)
      ⊢ iprop(xgSt (xv m ρ c) (wv m ρ c) c 0 ∗ sent m ρ K c ∗ atPos ER (barCell c) (0 + 1) ∅ 0 ∗ ins m ρ c ∗ R) := by
    iintro ⟨Hs, ⟨%fx, Hx⟩, HR⟩
    isplitl [Hx]
    · unfold xgSt; iexists fx
      isplitr; swap; · iexact Hx
      ipureintro; exact fun i hi => absurd hi (by omega)
    isplitl [Hs] <;> iassumption
  refine e3.trans ?_
  iterate 3 (refine xg_load (xv m ρ c) (wv m ρ c) fun _ => ?_; refine xg_store (xv m ρ c) (wv m ρ c) (by decide) (by rfl) (by rfl) ?_)
  exact h

end Cert.MoeProof

end
-- ==== Proof.Body.lean ====
/-
One device's whole body: from what the launch deals it to its block of the result, its exchange buffer whole again and all
its semaphore counters at zero.
-/
module

public import proofs.«01_k».proof.Proof.Open
public import Idealize.ShloMosaic.Lib.Pipeline.Kit

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

set_option maxRecDepth 65536

/-- Device `c`'s block of the result: the four groups' products summed. -/
def outAt (c : Dev nD) : FVec F S256x256 .f32 :=
  k0_pay1 (xgOf (xv m ρ c) (wv m ρ c) 3) (wtsOf m ρ 3)
    (k0_pay85 (xgOf (xv m ρ c) (wv m ρ c) 2) (wtsOf m ρ 2)
      (k0_pay84 (xgOf (xv m ρ c) (wv m ρ c) 1) (wtsOf m ρ 1)
        (k0_pay83 (xgOf (xv m ρ c) (wv m ρ c) 0) (wtsOf m ρ 0))))

/-- The positions of a device's send and receive cells. -/
def sendPos (c : Dev nD) (S : Finset (Dev nD)) (r : ℕ) : sProp 𝕄 := bigSep S fun d => atPos ER (sendCell c d) r ∅ 0
def recvPos (c : Dev nD) (S : Finset (Dev nD)) (r : ℕ) : sProp 𝕄 := bigSep S fun d => atPos ER (recvCell c d) r ∅ 0

/-- What stays aside while the slots are received. -/
def aside (c : Dev nD) : sProp 𝕄 :=
  iprop(atPos ER (barCell c) (0 + 1) ∅ 0 ∗ ins m ρ c ∗ atPos ER (recvCell c c) 0 ∅ 0 ∗ atPos ER (sendCell c c) 0 ∅ 0
    ∗ bigSep (Finset.univ.erase c) fun d => iprop(atPos ER (sendCell c d) 0 ∅ 0 ∗ cred (tallyAt (sendCell c d) () N)))

/-- What a device holds when its program has ended. -/
def ended (c : Dev nD) : sProp 𝕄 :=
  iprop(drainInv m ρ K c 31 ∗ bigSep Finset.univ (item m ρ c 32) ∗ xgSt (xv m ρ c) (wv m ρ c) c 64 ∗ outPts c (outAt m ρ c)
    ∗ atPos ER (barCell c) (0 + 1) ∅ 0 ∗ ins m ρ c ∗ atPos ER (recvCell c c) 0 ∅ 0 ∗ atPos ER (sendCell c c) 0 ∅ 0)

variable {m ρ K}

/-- The last wait, the last group, and the send waits. -/
theorem tail_run {c : Dev nD} {Q : PUnit → sProp 𝕄} {f : FVec F S256x256 .f32}
    (hf : k0_pay1 (xgOf (xv m ρ c) (wv m ρ c) 3) (wtsOf m ρ 3) f = outAt m ρ c)
    (h : ended m ρ K c ⊢ WP c (.ret ⟨⟩) Q) :
    phase m ρ K (xv m ρ c) (wv m ρ c) c (aside m ρ c) 32 f
      ⊢ WP c (.op (.load gM (Rect.unit (s := S256x8192) ![0, 6144] S256x2048.size inb_S256x8192_S256x2048_0_6144).toLoadRect (View.loadsAt_vmem h_S256x2048)) fun v672 =>
          .op (.load xM (Rect.unit (s := S8192x256) ![6144, 0] S2048x256.size inb_S8192x256_S2048x256_6144_0).toLoadRect (View.loadsAt_vmem h_S2048x256)) fun v673 =>
          .op (.load aO (Rect.unit (s := S256x256) ![0, 0] S256x256.size inb_S256x256_S256x256_0_0).toLoadRect (View.loadsAt_vmem h_S256x256)) fun v675 =>
          .op (.load aO (Rect.unit (s := S256x256) ![0, 0] S256x256.size inb_S256x256_S256x256_0_0).toLoadRect (View.loadsAt_vmem h_S256x256)) fun v678 =>
          .op (.store aO (Rect.unit (s := S256x256) ![0, 0] S256x256.size inb_S256x256_S256x256_0_0) (k0_pay1 v672 v673 v675) Finset.univ (View.stores_vmem_bits_univ h_S256x256 rfl) (.inl rfl)) fun _ =>
          Scf.Loop.for k0_t3_loop k0_t3_ok ⟨⟩ (k0_t3_body aX hX aR hR aI hI aW hW aO hO xM hM gM hG cc0_scratch2 cc0_scratch3 c) >>= fun _ => .ret ⟨⟩) Q := by
  refine load_xg ⟨3, by decide⟩ (by rfl) ?_
  refine load_wts ⟨3, by decide⟩ (by decide) (by rfl) ?_
  refine load_out ?_
  refine load_out ?_
  refine store_out ?_
  have hf' : k0_pay1 (xgOf (xv m ρ c) (wv m ρ c) ⟨3, by decide⟩) (wtsOf m ρ ⟨3, by decide⟩) f = outAt m ρ c := hf
  rw [hf']
  unfold phase recvSt aside
  iintro ⟨⟨#HR, HO, Hit⟩, Hx, Ho, Hb, Hi, Hrc, Hsc, Hsd⟩
  iapply (wp_drain m ρ K c (kk := fun _ => .ret ⟨⟩)) $$ [HO Hsd]
  · unfold drainInv
    rw [todo_zero, done_zero, bigSep_empty]
    isplitr; · iexact HR
    isplitl [HO]; · iexact HO
    isplitl [Hsd]; · iexact Hsd
    iempintro
  iintro Hd
  iapply h
  unfold ended
  isplitl [Hd]; · iexact Hd
  isplitl [Hit]; · iexact Hit
  isplitl [Hx]; · iexact Hx
  isplitl [Ho]; · iexact Ho
  isplitl [Hb]; · iexact Hb
  isplitl [Hi]; · iexact Hi
  isplitl [Hrc] <;> iassumption

/-- Between the products and the waits: what the first half leaves is the state the receive waits start from. -/
theorem to_waits (c : Dev nD) (f : FVec F S256x256 .f32) :
    iprop(xgSt (xv m ρ c) (wv m ρ c) c 63 ∗ sent m ρ K c ∗ atPos ER (barCell c) (0 + 1) ∅ 0 ∗ ins m ρ c
        ∗ (sendPos c Finset.univ 0 ∗ recvPos c Finset.univ 0 ∗ (bigSep (Finset.univ.erase c) fun o => cred (tallyAt (recvCell c o) () N)) ∗ outPts c f))
      ⊢ iprop(xgSt (xv m ρ c) (wv m ρ c) c 63 ∗ recvSt m ρ K c 0 ∗ outPts c f ∗ aside m ρ c) := by
  unfold sent aside recvSt sendPos recvPos
  rw [take (Finset.mem_univ c) (item m ρ c 0), take (Finset.mem_univ c) (fun d => (atPos ER (sendCell c d) 0 ∅ 0 : sProp 𝕄)),
    take (Finset.mem_univ c) (fun d => (atPos ER (recvCell c d) 0 ∅ 0 : sProp 𝕄)),
    bigSep_congr (s := Finset.univ.erase c) (Φ := item m ρ c 0) (Ψ := fun o => iprop(atPos ER (recvCell c o) 0 ∅ 0 ∗ cred (tallyAt (recvCell c o) () N)))
      (fun o ho => by unfold item; rw [if_neg (Finset.mem_erase.mp ho).1, if_neg (Nat.not_lt_zero _)]), bigSep_sep', bigSep_sep',
    show item m ρ c 0 c = slotPts c c fullShare.left (commAll m ρ) from by unfold item; rw [if_pos rfl]]
  iintro ⟨Hx, ⟨HR, HO, Hl, Hsc⟩, Hb, Hi, ⟨Hs1, Hs2⟩, ⟨Hr1, Hr2⟩, Hrc, Ho⟩
  isplitl [Hx]; · iexact Hx
  isplitl [HR HO Hl Hr2 Hrc]
  · isplitl [HR]; · iexact HR
    isplitl [HO]; · iexact HO
    isplitl [Hl]; · iexact Hl
    isplitl [Hr2] <;> iassumption
  isplitl [Ho]; · iexact Ho
  isplitl [Hb]; · iexact Hb
  isplitl [Hi]; · iexact Hi
  isplitl [Hr1]; · iexact Hr1
  isplitl [Hs1]; · iexact Hs1
  isplitl [Hs2] <;> iassumption

/-- The whole body. -/
theorem body_run {c : Dev nD} {Q : PUnit → sProp 𝕄} {W : Waits sig Unit} {f : FVec F S256x256 .f32}
    (h : ended m ρ K c ⊢ WP c (.ret ⟨⟩) Q) :
    iprop(sigInv m ρ K c W 0 ∗ barIn c ∗ ins m ρ c ∗ (sendIn c ∗ (∃ f, ((c : Thread nD τ).loc cc0_scratch1) ↦{fullShare} f)
        ∗ (sendPos c Finset.univ 0 ∗ recvPos c Finset.univ 0 ∗ (bigSep (Finset.univ.erase c) fun o => cred (tallyAt (recvCell c o) () N)) ∗ outPts c f)))
      ⊢ WP c (cc0_body aX hX aR hR aI hI aW hW aO hO xM hM gM hG cc0_scratch2 cc0_scratch3) Q := by
  rw [cc0_body_eq_skeleton]; unfold cc0_body_skel
  refine part1_run ?_; dsimp only
  refine part2_run ?_; dsimp only
  refine part3_run _ _ _ (by rfl) ?_
  refine part4_run _ _ _ (by rfl) ?_
  refine part5_run _ _ _ (by rfl) ?_
  refine part6_run _ _ _ (by rfl) ?_; dsimp only
  refine part7_run _ _ _ _ (by rfl) (fun _ => ?_); dsimp only
  refine part8_run _ _ _ _ (by rfl) ?_; dsimp only
  refine part9_run _ _ _ _ (by rfl) ?_
  refine part10_run _ _ _ (by rfl) ?_
  refine part11_run _ _ _ (by rfl) ?_
  refine part12_run _ _ _ (by rfl) ?_
  refine part13_run _ _ ?_
  refine (to_waits c f).trans ?_
  refine part14_run rfl _ (by rfl) ?_; dsimp only
  refine part15_run rfl _ _ ?_; dsimp only
  refine part16_run rfl _ _ ?_
  refine part17_run rfl ?_
  simp only [Prog.lift, Prog.bind_op, Prog.bind_ret, Prog.pure_eq_ret, Prog.bind_assoc, guarded_eq, guarded_bind]
  refine recv_step (by decide) rfl (by rfl) ?_
  exact tail_run rfl h

end Cert.MoeProof

end
-- ==== Proof.Close.lean ====
/-
The end of one device's body: every cell closed, the exchange buffer whole again.
-/
module

public import proofs.«01_k».proof.Proof.Body

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ)

omit [FloatOps F] in
/-- A family over the two kinds of semaphore and the slots is the sends' and the receives'. -/
theorem bigSep_kinds (Φ : Bool × Fin 32 → sProp 𝕄) :
    bigSep Finset.univ Φ = iprop((bigSep Finset.univ fun o => Φ (false, o)) ∗ bigSep Finset.univ fun o => Φ (true, o)) := by
  rw [bigSep_univ_prod]
  exact bigSep_univ_eq_bigSepL [false, true] (by decide) (by decide) (fun b : Bool => bigSep Finset.univ fun o => Φ (b, o))

omit [FloatOps F] in
/-- Whatever is known for good may be used at every member of a family. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- One cell closes at a position past its duties: its counter, at zero, is the device's again. -/
theorem cell_shut (ck : Dev nD × CK) {R : ℕ} (hR : ∀ r, R ≤ r → (moeRd (F := F) m ρ).duties (kcell ck) r = ∅) :
    iprop(records m ρ K ∗ atPos ER (kcell ck) R ∅ 0) ⊢ (|={Set.univ}=> semVal (kcell ck) 0 : sProp 𝕄) := by
  iintro ⟨#HR, Hat⟩
  iapply (Rounds.cell_close ER (moeRd m ρ) (Set.mem_univ (K ck)) (fun h => h) (R := R) hR)
  isplitr; · iapply (inv_of m ρ K ck); iexact HR
  iexact Hat

theorem sends_shut (c : Dev nD) :
    iprop(records m ρ K ∗ sendPos c (Finset.univ.erase c) (0 + 1)) ⊢ (|={Set.univ}=> bigSep (Finset.univ.erase c) fun d => semVal (sendCell c d) 0 : sProp 𝕄) :=
  (bigSep_using fun d _ => cell_shut m ρ K (kSend c d) (R := 0 + 1) (duties_later m ρ _)).trans (bigSep_fupd _ _)
theorem recvs_shut (c : Dev nD) :
    iprop(records m ρ K ∗ recvPos c (Finset.univ.erase c) (0 + 1)) ⊢ (|={Set.univ}=> bigSep (Finset.univ.erase c) fun d => semVal (recvCell c d) 0 : sProp 𝕄) :=
  (bigSep_using fun d _ => cell_shut m ρ K (kRecv c d) (R := 0 + 1) (duties_later m ρ _)).trans (bigSep_fupd _ _)

/-- The received slots' items: every slot's left half; and of the others' slots the right half and the closed position. -/
theorem items_split (c : Dev nD) :
    bigSep Finset.univ (item m ρ c 32) ⊢ iprop((bigSep Finset.univ fun o : Fin 32 => slotPts c o fullShare.left (commAll m ρ))
      ∗ (bigSep (Finset.univ.erase c) fun o : Fin 32 => slotPts c o fullShare.right (commAll m ρ)) ∗ recvPos c (Finset.univ.erase c) (0 + 1)) := by
  have e : bigSep Finset.univ (item m ρ c 32) ⊢ bigSep Finset.univ (fun o => iprop(slotPts c o fullShare.left (commAll m ρ) ∗ itemRest m ρ c o)) :=
    bigSep_mono fun o _ => (item_past m ρ c o.isLt).1
  refine e.trans ?_
  unfold recvPos
  rw [bigSep_sep', take (Finset.mem_univ c) (itemRest m ρ c),
    bigSep_congr (s := Finset.univ.erase c) (Φ := itemRest m ρ c) (Ψ := fun o => iprop(slotPts c o fullShare.right (commAll m ρ) ∗ atPos ER (recvCell c o) (0 + 1) ∅ 0))
      (fun o ho => by unfold itemRest; rw [if_neg (Finset.mem_erase.mp ho).1]), bigSep_sep']
  iintro ⟨H1, -, H2, H3⟩
  isplitl [H1]; · iexact H1
  isplitl [H2] <;> iassumption

/-- The slots' halves joined: the whole filled buffer. -/
theorem slots_join (c : Dev nD) :
    iprop((bigSep Finset.univ fun o : Fin 32 => slotPts c o fullShare.left (commAll m ρ))
      ∗ (bigSep (Finset.univ.erase c) fun o : Fin 32 => slotPts c o fullShare.right (commAll m ρ))
      ∗ bigSep (Finset.univ.erase c) fun d => slotPts c c (lent c d) (commAll m ρ))
      ⊢ (((c : Thread nD τ).loc cc0_scratch0) ↦{fullShare} commAll m ρ : sProp 𝕄) := by
  rw [slots_whole c fullShare, bigSep_congr (s := Finset.univ) (fun o _ => slot_halves c o (commAll m ρ)), bigSep_sep',
    take (Finset.mem_univ c) (fun o : Fin 32 => slotPts c o fullShare.right (commAll m ρ)), slot_lent c]
  iintro ⟨H1, H2, H3⟩
  isplitl [H1]; · iexact H1
  isplitl [H3] <;> iassumption

/-- What the exit of the kernel asks for. -/
def shut (c : Dev nD) : sProp 𝕄 :=
  iprop((((c : Thread nD τ).loc cc0_scratch0) ↦{fullShare} commAll m ρ) ∗ (∃ f, ((c : Thread nD τ).loc cc0_scratch1) ↦{fullShare} f)
    ∗ (bigSep Finset.univ fun k : Bool × Fin 32 => semVal ((c : Thread nD τ), osem k) 0) ∗ semVal (barCell c) 0)

theorem close_all (c : Dev nD) :
    ended m ρ K c ⊢ (|={Set.univ}=> (shut m ρ c ∗ (∃ W, owes (c : Thread nD τ) 0 W) ∗ ins m ρ c ∗ outPts c (outAt m ρ c)) : sProp 𝕄) := by
  unfold ended drainInv
  rw [todo_last, done_last, bigSep_empty, bigSep_sep']
  iintro ⟨⟨#HR, HO, -, HsP, Hlent⟩, Hit, Hx, Ho, Hb, Hi, Hrc, Hsc⟩
  ihave Hit := (items_split m ρ c) $$ Hit
  icases Hit with ⟨Hl, Hr, HrP⟩
  ihave Hbuf := (slots_join m ρ c) $$ [Hl Hr Hlent]
  · isplitl [Hl]; · iexact Hl
    isplitl [Hr] <;> iassumption
  imod (sends_shut m ρ K c) $$ [HsP] with HzS
  · isplitr; · iexact HR
    unfold sendPos; iexact HsP
  imod (recvs_shut m ρ K c) $$ [HrP] with HzR
  · isplitr; · iexact HR
    iexact HrP
  imod (cell_shut m ρ K (kBar c) (R := 0 + 1) (duties_later m ρ (barCell c))) $$ [Hb] with HzB
  · isplitr; · iexact HR
    iexact Hb
  imod (cell_shut m ρ K (kSend c c) (R := 0) (fun r _ => duties_send_self m ρ c r)) $$ [Hsc] with HzSc
  · isplitr; · iexact HR
    iexact Hsc
  imod (cell_shut m ρ K (kRecv c c) (R := 0) (fun r _ => duties_recv_self m ρ c r)) $$ [Hrc] with HzRc
  · isplitr; · iexact HR
    iexact Hrc
  imodintro
  unfold shut
  isplitr [HO Hi Ho]
  · isplitl [Hbuf]; · iexact Hbuf
    isplitl [Hx]
    · unfold xgSt; icases Hx with ⟨%f, -, Hx⟩; iexists f; iexact Hx
    isplitr [HzB]
    · rw [bigSep_kinds, take (Finset.mem_univ c) (fun o : Fin 32 => (semVal ((c : Thread nD τ), osem (false, o)) 0 : sProp 𝕄)),
        take (Finset.mem_univ c) (fun o : Fin 32 => (semVal ((c : Thread nD τ), osem (true, o)) 0 : sProp 𝕄))]
      isplitl [HzS HzSc]
      · isplitl [HzSc]; · iexact HzSc
        iexact HzS
      isplitl [HzRc]; · iexact HzRc
      iexact HzR
    iexact HzB
  isplitl [HO]; · iexact HO
  isplitl [Hi] <;> iassumption

end Cert.MoeProof

end
-- ==== Proof.Launch.lean ====
/-
The launch: what each device starts from, how the cells' ghost state and the credits are dealt, and the run of the
whole mesh.
-/
module

public import proofs.«01_k».proof.Proof.Close
public import proofs.«01_k».proof.Proof.Gen.KernelIdeal.Points
public import Idealize.ShloMosaic.Lib.Pipeline.CollectiveSegs

@[expose] public section

noncomputable section

namespace Cert.MoeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536

/-! ## What a device starts from -/

/-- The duty tokens device `c` pays with: for every device `d`, `d`'s barrier cell's, its own send cell's, and `d`'s
    receive cell's. -/
def payToks (c : Dev nD) : sProp 𝕄 :=
  iprop((bigSep Finset.univ fun d : Dev nD => dutyTok ER (barCell d) 0 c) ∗ (bigSep Finset.univ fun d : Dev nD => dutyTok ER (sendCell c d) 0 c)
    ∗ bigSep Finset.univ fun d : Dev nD => dutyTok ER (recvCell d c) 0 d)

/-- What is device `c`'s alone: its positions in its cells, and those tokens. -/
def linear (c : Dev nD) : sProp 𝕄 :=
  iprop((bigSep Finset.univ fun k : CK => atPos ER (kcell (c, k)) 0 ∅ 0) ∗ payToks c)

/-- The credits dealt to device `c` at launch. -/
def credIn (c : Dev nD) : sProp 𝕄 :=
  iprop(cred (tallyAt (barCell c) () 31) ∗ bigSep (Finset.univ.erase c) fun o => cred (tallyAt (recvCell c o) () N))

def G' (c : Dev nD) : sProp 𝕄 := iprop(∃ K, records m ρ K ∗ linear c)

def start (c : Dev nD) : sProp 𝕄 := iprop(G' m ρ c ∗ credIn c ∗ levAts L lv)

def Φ₀ (c : Dev nD) : sProp 𝕄 :=
  iprop(start m ρ c ∗ (∃ f, ((c : Thread nD τ).loc cc0_scratch0) ↦{fullShare} f) ∗ ∃ f, ((c : Thread nD τ).loc cc0_scratch1) ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => istg m ρ c
    | ⟨3, _⟩ => wstg m ρ c
    | ⟨4, _⟩ => outAt m ρ c
  Φ t := match t with
    | ⟨0, _⟩ => Φ₀ m ρ c
    | ⟨_ + 1, _⟩ => shut m ρ c
  q _ := fullShare
  owed t := match t with
    | ⟨0, _⟩ => O₀ c
    | ⟨_ + 1, _⟩ => 0

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
theorem stg_eq (c : Dev nD) (b : Ref sig .tc) (X : b.ty.Contents (Elt F)) :
    (stg c b X : sProp 𝕄) = (((c : Thread nD τ).loc b) ↦{fullShare} X) := by
  have e1 : (stg c b X : sProp 𝕄) ⊢ (((c : Thread nD τ).loc b) ↦{fullShare} X) := by
    iintro ⟨%f, %hf, H⟩; subst hf; iexact H
  have e2 : ((((c : Thread nD τ).loc b) ↦{fullShare} X) : sProp 𝕄) ⊢ stg c b X := by
    iintro H; iexists X; isplitr; · (ipureintro; rfl)
    iexact H
  exact BI.Entails.antisymm e1 e2

/-! ## The body -/

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(shut m ρ c ∗ (dats m ρ 0 c).owesAt () t0_0.succ ∗ stg c cc0_stg0_0 (xstg m ρ c) ∗ stg c cc0_stg1_0 (rstg m ρ c)
    ∗ stg c cc0_stg2_0 (istg m ρ c) ∗ stg c cc0_stg3_0 (wstg m ρ c) ∗ stg c cc0_stg4_0 (outAt m ρ c))

/-- What the program's end leaves is what the body owes. -/
theorem ended_post (K : Dev nD × CK → ℕ) (c : Dev nD) : ended m ρ K c ⊢ WP c (.ret ⟨⟩) (fun _ : PUnit => bodyPost m ρ c) := by
  have e : iprop(shut m ρ c ∗ (∃ W, owes (c : Thread nD τ) 0 W) ∗ ins m ρ c ∗ outPts c (outAt m ρ c)) ⊢ bodyPost m ρ c := by
    unfold bodyPost ins outPts Dat.owesAt Pipeline.owesWithin
    simp only [stg_eq]
    rw [show (dats m ρ 0 c).owed t0_0.succ = 0 from rfl]
    iintro ⟨Hs, ⟨%W, HO⟩, ⟨H0, H1, H2, H3⟩, H4⟩
    isplitl [Hs]; · iexact Hs
    isplitl [HO]
    · iexists W; isplitr; · ipureintro; exact fun _ _ => Or.inl trivial
      iexact HO
    isplitl [H0]; · iexact H0
    isplitl [H1]; · iexact H1
    isplitl [H2]; · iexact H2
    isplitl [H3]; · iexact H3
    iexact H4
  unfold WP; rw [wp_ret]
  exact (close_all m ρ K c).trans (BI.fupd_mono e)

theorem before_0 (c : Dev nD) (d) : (dats m ρ 0 c).before (0 : Fin 5) t0_0 d = xstg m ρ c := by
  unfold Dat.before; rw [if_pos (fetch0_0 t0_0)]; rfl
theorem before_1 (c : Dev nD) (d) : (dats m ρ 0 c).before (1 : Fin 5) t0_0 d = rstg m ρ c := by
  unfold Dat.before; rw [if_pos (fetch0_1 t0_0)]; rfl
theorem before_2 (c : Dev nD) (d) : (dats m ρ 0 c).before (2 : Fin 5) t0_0 d = istg m ρ c := by
  unfold Dat.before; rw [if_pos (fetch0_2 t0_0)]; rfl
theorem before_3 (c : Dev nD) (d) : (dats m ρ 0 c).before (3 : Fin 5) t0_0 d = wstg m ρ c := by
  unfold Dat.before; rw [if_pos (fetch0_3 t0_0)]; rfl

omit [FloatOps F] in
/-- A family over the cells of one device: its barrier cell's, its send cells', its receive cells'. -/
theorem bigSep_cells (Φ : CK → sProp 𝕄) :
    bigSep Finset.univ Φ = iprop(Φ (.inl ()) ∗ (bigSep Finset.univ fun o : Fin 32 => Φ (.inr (false, o))) ∗ bigSep Finset.univ fun o : Fin 32 => Φ (.inr (true, o))) := by
  rw [bigSep_univ_sum, Finset.univ_unique, bigSep_singleton, bigSep_kinds]; rfl

omit [FloatOps F] in
theorem others (c : Dev nD) (Φ : Dev nD → sProp 𝕄) : bigSep Finset.univ Φ ⊢ bigSep (Finset.univ.erase c) Φ :=
  bigSep_subset (Finset.erase_subset c Finset.univ)

omit [FloatOps F] in
theorem some_slots (c : Dev nD) (S : Finset (Dev nD)) (f : (cc0_scratch0 : Ref sig .tc).ty.Contents (Elt F)) :
    (bigSep S fun d => slotPts (F := F) c d fullShare f) ⊢ bigSep S fun d => iprop(∃ f, slotPts (F := F) c d fullShare f) :=
  bigSep_mono fun d _ => BI.Laws.exists_intro (Φ := fun f => slotPts (F := F) c d fullShare f) f

/-- What the pipeline hands the body is what the body's run takes. -/
theorem body_start (c : Dev nD) :
    bodyPre m ρ c ⊢ iprop(∃ (K : Dev nD × CK → ℕ) (W : Waits sig Unit) (f : FVec F S256x256 .f32), sigInv m ρ K c W 0 ∗ barIn c ∗ ins m ρ c
      ∗ (sendIn c ∗ (∃ f, ((c : Thread nD τ).loc cc0_scratch1) ↦{fullShare} f)
        ∗ (sendPos c Finset.univ 0 ∗ recvPos c Finset.univ 0 ∗ (bigSep (Finset.univ.erase c) fun o => cred (tallyAt (recvCell c o) () N)) ∗ outPts c f))) := by
  unfold bodyPre Φ₀ start G' linear payToks credIn Dat.owesAt Pipeline.owesWithin
  simp only [before_0, before_1, before_2, before_3, stg_eq, bigSep_cells]
  rw [show (dats m ρ 0 c).owed t0_0.castSucc = O₀ c from rfl]
  iintro ⟨⟨⟨⟨%K, HR, ⟨HaB, HaS, HaV⟩, HtB, HtS, HtV⟩, ⟨HcB, HcV⟩, Hlev⟩, ⟨%f0, Hm⟩, Hg⟩, ⟨%W, -, HO⟩, ⟨%d0, H0⟩, ⟨%d1, H1⟩, ⟨%d2, H2⟩, ⟨%d3, H3⟩, ⟨%d4, H4⟩⟩
  iexists K, W, _
  unfold sigInv barIn ins sendIn sendPos recvPos outPts
  rw [todo_zero]
  ihave HtB := (others c (fun d : Dev nD => dutyTok ER (barCell d) 0 c)) $$ HtB
  ihave HtS := (others c (fun d : Dev nD => dutyTok ER (sendCell c d) 0 c)) $$ HtS
  ihave HtV := (others c (fun d : Dev nD => dutyTok ER (recvCell d c) 0 d)) $$ HtV
  ihave Hm := (Entails.of_eq ((slots_whole c fullShare f0).trans (take (Finset.mem_univ c) (fun o : Fin 32 => slotPts c o fullShare f0)))) $$ Hm
  icases Hm with ⟨Hown, Hm⟩
  isplitl [HR HO HtB Hm]
  · isplitl [HR]; · iexact HR
    isplitl [HO]; · iexact HO
    isplitl [HtB]; · iexact HtB
    iapply (some_slots c (Finset.univ.erase c) f0); iexact Hm
  isplitl [Hlev HcB HaB]
  · isplitl [Hlev]; · iexact Hlev
    isplitl [HcB]; · iexact HcB
    iexact HaB
  isplitl [H0 H1 H2 H3]
  · isplitl [H0]; · iexact H0
    isplitl [H1]; · iexact H1
    isplitl [H2]; · iexact H2
    iexact H3
  isplitl [HtS HtV Hown]
  · isplitl [HtS]; · iexact HtS
    isplitl [HtV]; · iexact HtV
    iexists f0; iexact Hown
  isplitl [Hg]; · iexact Hg
  isplitl [HaS]; · iexact HaS
  isplitl [HaV]; · iexact HaV
  isplitl [HcV]; · iexact HcV
  iexact H4

theorem sound_body (c : Dev nD) :
    bodyPre m ρ c ⊢ WP c (cc0_body aX hX aR hR aI hI aW hW aO hO xM hM gM hG cc0_scratch2 cc0_scratch3) (fun _ : PUnit => bodyPost m ρ c) :=
  (body_start m ρ c).trans (BI.Laws.exists_elim fun K => BI.Laws.exists_elim fun W => BI.Laws.exists_elim fun f => body_run (ended_post m ρ K c))

/-- The library's body obligation on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  exact sound_body m ρ c

/-! ## Dealing the ghost state -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  rintro (⟨⟩ | ⟨b, o⟩) (⟨⟩ | ⟨b', o'⟩) h
  · rfl
  · cases b' <;> cases h
  · cases b <;> cases h
  · cases b <;> cases b'
    · rw [sSem_inj (o := o) (o' := o') (by injection h)]
    · exact absurd (by injection h) (sSem_ne_rSem o o')
    · exact absurd (by injection h with h; exact h.symm) (sSem_ne_rSem o' o)
    · rw [rSem_inj (o := o) (o' := o') (by injection h)]

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

def moeCells : Finset (GSem nD τ sig) := Finset.univ.map ⟨kcell, kcell_injective⟩

/-- A device's cells' duty tokens as minted: of its barrier cell one per device, of each of its send and receive cells
    its own. -/
def tokOf (x : Dev nD × (Fin 32 ⊕ (Bool × Fin 32))) : GSem nD τ sig × ℕ × Dev nD :=
  match x.2 with
  | .inl d => (barCell x.1, 0, d)
  | .inr k => (kcell (x.1, .inr k), 0, x.1)

theorem tokOf_injective : Function.Injective tokOf := by
  rintro ⟨c, k⟩ ⟨c', k'⟩ h
  have h1 : c = c' := by
    have := congrArg (fun x : GSem nD τ sig × ℕ × Dev nD => x.1.1.1) h
    rcases k with d | k <;> rcases k' with d' | k' <;> exact this
  subst h1
  rcases k with d | k <;> rcases k' with d' | k'
  · rw [show d = d' from congrArg (fun x : GSem nD τ sig × ℕ × Dev nD => x.2.2) h]
  · exact absurd (kcell_injective (a₁ := (c, .inl ())) (a₂ := (c, .inr k')) (congrArg Prod.fst h)) (by simp)
  · exact absurd (kcell_injective (a₁ := (c, .inr k)) (a₂ := (c, .inl ())) (congrArg Prod.fst h)) (by simp)
  · have := kcell_injective (a₁ := (c, .inr k)) (a₂ := (c, .inr k')) (congrArg Prod.fst h)
    simp only [Prod.mk.injEq, Sum.inr.injEq, true_and] at this; rw [this]

def moeToks : Finset (GSem nD τ sig × ℕ × Dev nD) := Finset.univ.map ⟨tokOf, tokOf_injective⟩

def u₀ : UU := (initOf (Pipeline.cells cfgs cellOf_inj) (Pipeline.launchToks cfgs cellOf_inj), initOf moeCells moeToks)

/-- The duty tokens of device `c`'s own cells. -/
def toks (c : Dev nD) : sProp 𝕄 :=
  iprop((bigSep Finset.univ fun d : Dev nD => dutyTok ER (barCell c) 0 d) ∗ (bigSep Finset.univ fun d : Dev nD => dutyTok ER (sendCell c d) 0 c)
    ∗ bigSep Finset.univ fun d : Dev nD => dutyTok ER (recvCell c d) 0 c)

/-- What the launch element deals device `c`. -/
def G (c : Dev nD) : sProp 𝕄 :=
  iprop((bigSep Finset.univ fun k : CK => roundState ER (moeRd m ρ) (kcell (c, k)) 0)
    ∗ (bigSep Finset.univ fun k : CK => atPos ER (kcell (c, k)) 0 ∅ 0) ∗ (bigSep Finset.univ fun k : CK => reached ER (kcell (c, k)) 0) ∗ toks c)

theorem fund_moe : BI.own (ER (initOf moeCells moeToks)) ⊢ (|==> bigSep Finset.univ (G m ρ) : sProp 𝕄) := by
  have hX (Φ : GSem nD τ sig → sProp 𝕄) : bigSep moeCells Φ = bigSep Finset.univ fun c : Dev nD => bigSep Finset.univ fun k : CK => Φ (kcell (c, k)) := by
    unfold moeCells; rw [bigSep_map, bigSep_univ_prod]; rfl
  have hT : bigSep moeToks (fun x => (dutyTok ER x.1 x.2.1 x.2.2 : sProp 𝕄)) = bigSep Finset.univ fun c : Dev nD => toks c := by
    unfold moeToks; rw [bigSep_map, bigSep_univ_prod]
    exact bigSep_congr fun c _ => by unfold toks; rw [bigSep_univ_sum, bigSep_kinds]; rfl
  iintro HX
  imod (Rounds.fund ER (moeRd m ρ) moeCells moeToks) $$ HX with ⟨Hst, Hr, Hat, Htok⟩
  imodintro
  ihave Hst' := (Entails.of_eq (hX fun g => roundState ER (moeRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  have e : (Pipeline.ownSems0 (Ix := Unit) (Name := ℕ) (U := UU) (Lvl := ℕ) (Val := Elt F) (τ := τ) osem c : sProp 𝕄)
      = iprop((bigSep Finset.univ fun o : Fin 32 => semVal (kcell (c, .inr (false, o))) 0) ∗ bigSep Finset.univ fun o : Fin 32 => semVal (kcell (c, .inr (true, o))) 0) := by
    unfold Pipeline.ownSems0; rw [bigSep_kinds]; rfl
  rw [unscopedSems0_eq, bigSep_cells, e]
  iintro ⟨HS, HB⟩
  isplitl [HB]; · iexact HB
  iexact HS

/-- Each device's cells put under invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (moeRd m ρ) κ (kcell (c, k))))
          ∗ (bigSep Finset.univ fun k : CK => atPos ER (kcell (c, k)) 0 ∅ 0) ∗ (bigSep Finset.univ fun k : CK => reached ER (kcell (c, k)) 0) ∗ toks c) := by
  unfold G
  iintro ⟨Hos, Hus, Hst, Hrest⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (moeRd m ρ) (kcell (c, k)) 0)
      ⊢ (|={Set.univ}=> bigSep Finset.univ fun k : CK => iprop(∃ κ : ℕ, cellInv ER (moeRd m ρ) κ (kcell (c, k))) : sProp 𝕄) from by
        rw [← bigSep_sep']
        exact (bigSep_mono fun k _ => (Rounds.body_intro ER (moeRd m ρ) (kcell (c, k))).trans inv_alloc).trans (bigSep_fupd _ _)) $$ [Hv Hst] with Hinv
  · isplitl [Hv] <;> iassumption
  imodintro
  isplitl [Hinv]; · iexact Hinv
  iexact Hrest

omit [FloatOps F] in
/-- The tokens dealt to the devices that pay with them. -/
theorem toks_dealt : (bigSep Finset.univ fun c : Dev nD => (toks c : sProp 𝕄)) = bigSep Finset.univ fun c : Dev nD => payToks c := by
  unfold toks payToks
  rw [bigSep_sep', bigSep_sep', bigSep_sep', bigSep_sep',
    bigSep_univ_comm (fun c d : Dev nD => (dutyTok ER (barCell c) 0 d : sProp 𝕄)),
    bigSep_univ_comm (fun c d : Dev nD => (dutyTok ER (recvCell c d) 0 c : sProp 𝕄))]

theorem regroup :
    (bigSep Finset.univ fun c : Dev nD => iprop((bigSep Finset.univ fun k : CK => iprop(∃ κ : ℕ, cellInv ER (moeRd m ρ) κ (kcell (c, k))))
          ∗ (bigSep Finset.univ fun k : CK => atPos ER (kcell (c, k)) 0 ∅ 0) ∗ (bigSep Finset.univ fun k : CK => reached ER (kcell (c, k)) 0) ∗ toks c) : sProp 𝕄)
      ⊢ bigSep Finset.univ (G' m ρ) := by
  rw [bigSep_sep', bigSep_sep', bigSep_sep', ← bigSep_univ_prod (fun ck : Dev nD × CK => iprop(∃ κ : ℕ, cellInv ER (moeRd m ρ) κ (kcell ck))),
    ← bigSep_univ_prod (fun ck : Dev nD × CK => (reached ER (kcell ck) 0 : sProp 𝕄)), toks_dealt]
  iintro ⟨HI, Hat, #HR, Htok⟩
  ihave HK := (BI.bigSep_exists_pi Finset.univ (fun (ck : Dev nD × CK) (κ : ℕ) => (cellInv ER (moeRd m ρ) κ (kcell ck) : sProp 𝕄))) $$ HI
  icases HK with ⟨%K, #HI⟩
  iapply (bigSep_using (R := records m ρ K) (Φ := fun c : Dev nD => linear c) fun c _ => show iprop(records m ρ K ∗ linear c) ⊢ G' m ρ c from by
    unfold G'; iintro H; iexists K; iexact H)
  isplitr
  · unfold records; isplitl; · iexact HI
    iexact HR
  · unfold linear; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What is owed to device `c`'s cells by the others. -/
def owedTo (c : Dev nD) : CellTallies nD τ sig Unit :=
  tallyAt (barCell c) () 31 + ∑ o ∈ Finset.univ.erase c, tallyAt (recvCell c o) () N

omit [FloatOps F] in
theorem owedTo_elsewhere (c : Dev nD) (g : GSem nD τ sig) (h : g.1 ≠ (c : Thread nD τ)) : owedTo c g = 0 := by
  unfold owedTo
  have ne (sm : SemLoc sig) (n : ℕ) : (tallyAt ((c : Thread nD τ), sm) () n : CellTallies nD τ sig Unit) g = 0 :=
    tallyAt_ne_cell (fun e => h (by rw [e])) () n
  rw [Pi.add_apply, Finset.sum_apply, ne, Finset.sum_eq_zero (fun o _ => ne _ _), add_zero]

omit [FloatOps F] in
theorem nsmul_tally (g : GSem nD τ sig) (n : ℕ) : n • (tallyAt g () 1 : CellTallies nD τ sig Unit) = tallyAt g () n := by
  induction n with
  | zero => rw [zero_smul, tallyAt_zero]
  | succ n ih => rw [succ_nsmul, ih, tallyAt_add]

omit [FloatOps F] in
/-- The credit for a sum is a credit for each summand. -/
theorem cred_sum {I : Type} [DecidableEq I] (s : Finset I) (f : I → CellTallies nD τ sig Unit) :
    (cred (∑ o ∈ s, f o) : sProp 𝕄) ⊢ bigSep s fun o => cred (f o) := by
  induction s using Finset.induction_on with
  | empty => rw [bigSep_empty]; iintro -; iempintro
  | insert a s ha ih => rw [Finset.sum_insert ha, bigSep_insert ha]; exact (cred_add _ _).1.trans (sep_mono_right ih)

omit [FloatOps F] in
/-- Summed over the devices, what is owed is what is owed to. -/
theorem owed_sum : (∑ d, O₀ d) = ∑ c, owedTo c := by
  have swap (f : Dev nD → Dev nD → CellTallies nD τ sig Unit) :
      (∑ d, ∑ e ∈ Finset.univ.erase d, f d e) = ∑ e, ∑ d ∈ Finset.univ.erase e, f d e :=
    Finset.sum_comm' fun d e => by simp only [Finset.mem_erase, Finset.mem_univ, true_and, and_true, ne_comm]
  unfold O₀ owedTo owesRecv owesBar
  rw [Finset.sum_add_distrib, Finset.sum_add_distrib, swap, swap (fun d e => tallyAt (barCell e) () 1), add_comm]
  congr 1
  refine Finset.sum_congr rfl fun c _ => ?_
  rw [Finset.sum_const, Finset.card_erase_of_mem (Finset.mem_univ _), Finset.card_univ, Fintype.card_fin]
  exact nsmul_tally (barCell c) 31

omit [FloatOps F] in
theorem creds (c : Dev nD) : (Pipeline.launchCred O₀ c : sProp 𝕄) ⊢ credIn c := by
  rw [Pipeline.launchCred_of_sum O₀ owedTo owed_sum (fun d g h => by
    by_contra hn
    exact h (owedTo_elsewhere d g hn)) c]
  unfold owedTo credIn
  refine (cred_add _ _).1.trans (sep_mono_right ?_)
  exact cred_sum _ _

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1⟩
  isplitl [Hs]; · iexact Hs
  isplitl [H0]; · iexact H0
  iexact H1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = shut m ρ c from rfl, scopedRest0_eq, unscopedSems0_eq]
  unfold shut Pipeline.ownSems0
  iintro ⟨H0, H1, Hz, HzB⟩
  isplitl [HzB]; · iexact HzB
  isplitl [Hz]; · iexact Hz
  isplitl [H0]; · iexists (commAll m ρ); iexact H0
  iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters: every weakly fair execution on the thirty-two devices
    terminates, with each window's array at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_moe m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays after the run hold what they held. -/
theorem finalA_0 (c : Dev nD) : finalA m ρ c (0 : Fin 5) = m ((c : Thread nD τ).loc main_arg0) := (dats (F := F) m ρ 0 c).arrAt_in (0 : Fin 5) rfl _
theorem finalA_1 (c : Dev nD) : finalA m ρ c (1 : Fin 5) = m ((c : Thread nD τ).loc main_arg1) := (dats (F := F) m ρ 0 c).arrAt_in (1 : Fin 5) rfl _
theorem finalA_2 (c : Dev nD) : finalA m ρ c (2 : Fin 5) = m ((c : Thread nD τ).loc main_arg2) := (dats (F := F) m ρ 0 c).arrAt_in (2 : Fin 5) rfl _
theorem finalA_3 (c : Dev nD) : finalA m ρ c (3 : Fin 5) = m ((c : Thread nD τ).loc main_arg3) := (dats (F := F) m ρ 0 c).arrAt_in (3 : Fin 5) rfl _

end Cert.MoeProof

end
-- ==== Proof.Frames.lean ====
/-
The result's array after the run, and the frames: each program runs to its end, leaves its arguments as they were and
every semaphore counter at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.MoeProof

open Cert.KernelIdeal Cert.KernelIdeal.Gen

open Idealize.ShloMosaic
open Idealize.ShloMosaic.TcCoe
open Idealize.SL.Sem

set_option maxRecDepth 65536

section Result

variable {F : FTy → Type} [FloatOps F]

variable (m : (ℓ : Loc nD τ sig) → Buf (Elt F) ℓ) (ρ : Dev nD → PrngReg)

/-- The result window's one block is the whole array: reading it reads the array. -/
theorem read_out (c : Dev nD) (f : Buf (Elt F) ((c : Thread nD τ).loc main_v1)) : (win0_4.blk t0_0).view.read (Elt F) f = f :=
  Memref.read_access_unit_zero (Elt F) main_v1
    (show (fun a => (win0_4.index t0_0) a * main_v1.ty.shape.size a) = fun _ => 0 from
      funext fun a => by fin_cases a <;> decide) (fun a => by fin_cases a <;> decide) f

/-- The result's array after the run holds `outAt`. -/
theorem finalA_4 (c : Dev nD) : finalA m ρ c (4 : Fin 5) = outAt m ρ c := by
  have h : (win0_4.blk t0_0).view.read (Elt F) (finalA m ρ c (4 : Fin 5)) = outAt m ρ c := by
    unfold finalA
    rw [show cfg0.N = t0_0.val + 1 from rfl, (dats m ρ 0 c).arrAt_succ (4 : Fin 5) t0_0, flush0_4, if_pos rfl]
    exact View.read_write_univ _ _
  exact (read_out c _).symm.trans h

end Result

/-- A run of the kernel, for any float values, ends with its arguments unchanged and every counter at zero. -/
theorem run_args {F : FTy → Type} [FloatOps F] (m : (ℓ : Loc nD τ sig) → Buf (Elt F) ℓ) (ρ : Dev nD → PrngReg) :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c (0 : Fin 5)).trans (finalA_0 m ρ c), (h.1 c (1 : Fin 5)).trans (finalA_1 m ρ c),
    (h.1 c (2 : Fin 5)).trans (finalA_2 m ρ c), (h.1 c (3 : Fin 5)).trans (finalA_3 m ρ c)⟩, h.2⟩) (run_main m ρ)

/-- The frame of the idealized kernel. -/
theorem frame_kernelIdeal : Cert.quiescent_KernelIdeal := fun m ρ _ => run_args (F := Ideal) m ρ

/-- The two programs' labels run the same bodies. -/
theorem bodies_eq {F : FTy → Type} [FloatOps F] : Cert.Kernel.defs₀ (F := F) = Cert.KernelIdeal.defs₀ (F := F) := by
  unfold Cert.Kernel.defs₀ Cert.KernelIdeal.defs₀
  refine congrArg (Defs.onTc (nD := 32)) ?_
  funext l a
  match l, a with
  | ⟨0, _⟩, (t, s) => rfl
  | ⟨_ + 1, h⟩, _ => exact absurd h (Nat.not_lt.2 (Nat.le_add_left _ _))

theorem defs_eq {F : FTy → Type} [FloatOps F] : Cert.Kernel.defs (F := F) = Cert.KernelIdeal.defs (F := F) := by
  unfold Cert.Kernel.defs Cert.KernelIdeal.defs
  rw [bodies_eq]; rfl

/-- The frame of the kernel as it computes on bits. -/
theorem frame_kernel : Cert.quiescent_Kernel := fun m ρ _ =>
  (θ_run Cert.Kernel.defs _ _).mono (fun _ h => h) (by rw [defs_eq]; exact run_args (F := Bits) m ρ)

/-- The frame of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MoeProof

end
-- ==== Proof.Weights.lean ====
module

public import Mathlib.Data.EReal.Operations
public import Idealize.ShloMosaic.PureOps.Ideal
public import Idealize.ShloMosaic.PureOps.Ideal.Laws

/-!
The mathematics of one token's row, over the extended reals: a softmax row of finite scores consists of positive
reals, and mixing all 64 experts with the normalised weights of the two chosen ones is the weighted sum of the two
chosen experts' outputs.
-/

@[expose] public section

noncomputable section

namespace Cert.MoeProof

open Idealize.ShloMosaic

/-- `t` is a real number. -/
def IsReal (t : EReal) : Prop := ∃ r : ℝ, t = (r : EReal)

/-- `t` is a positive real number. -/
def IsPos (t : EReal) : Prop := ∃ r : ℝ, 0 < r ∧ t = (r : EReal)

theorem IsPos.isReal {t : EReal} (h : IsPos t) : IsReal t := by
  obtain ⟨r, -, h⟩ := h
  exact ⟨r, h⟩

theorem isReal_of_ne {t : EReal} (h1 : t ≠ ⊤) (h2 : t ≠ ⊥) : IsReal t := ⟨t.toReal, (EReal.coe_toReal h1 h2).symm⟩

/-- What has an absolute value below +∞ is a real number. -/
theorem isReal_of_abs_lt {t : EReal} (h : max t (-t) < ⊤) : IsReal t := by
  rw [max_lt_iff] at h
  exact isReal_of_ne h.1.ne fun hb => by subst hb; simp at h

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- A finite sum of reals is a real. -/
theorem isReal_sum {ι : Type} (S : Finset ι) (f : ι → EReal) (h : ∀ i ∈ S, IsReal (f i)) : IsReal (∑ i ∈ S, f i) := by
  classical
  induction S using Finset.induction_on with
  | empty => exact ⟨0, by simp⟩
  | insert a S ha ih =>
    rw [Finset.sum_insert ha]
    obtain ⟨r, hr⟩ := h a (Finset.mem_insert_self a S)
    obtain ⟨s, hs⟩ := ih fun i hi => h i (Finset.mem_insert_of_mem hi)
    exact ⟨r + s, by rw [hr, hs, EReal.coe_add]⟩

theorem IsPos.add {a b : EReal} (ha : IsPos a) (hb : IsPos b) : IsPos (a + b) := by
  obtain ⟨r, hr, rfl⟩ := ha
  obtain ⟨s, hs, rfl⟩ := hb
  exact ⟨r + s, by positivity, (EReal.coe_add r s).symm⟩

/-- A nonempty finite sum of positive reals is a positive real. -/
theorem isPos_sum {ι : Type} (S : Finset ι) (hS : S.Nonempty) (f : ι → EReal) (h : ∀ i ∈ S, IsPos (f i)) :
    IsPos (∑ i ∈ S, f i) := by
  classical
  induction hS using Finset.Nonempty.cons_induction with
  | singleton a => simpa using h a (Finset.mem_singleton_self a)
  | cons a S ha hS ih =>
    rw [Finset.sum_cons]
    exact (h a (Finset.mem_cons_self a S)).add (ih fun i hi => h i (Finset.mem_cons_of_mem hi))

/-- The quotient of two positive reals is a positive real. -/
theorem IsPos.div {a b : EReal} (ha : IsPos a) (hb : IsPos b) : IsPos (Ideal.div a b) := by
  obtain ⟨r, hr, rfl⟩ := ha
  obtain ⟨s, hs, rfl⟩ := hb
  refine ⟨r * s⁻¹, by positivity, ?_⟩
  unfold Ideal.div
  rw [if_neg (by exact_mod_cast hs.ne'), EReal.coe_mul, EReal.coe_inv]

theorem isPos_exp {a : EReal} (ha : IsReal a) : IsPos (Ideal.exp a) := by
  obtain ⟨r, rfl⟩ := ha
  exact ⟨Real.exp r, Real.exp_pos r, rfl⟩

/-- The largest of finitely many reals, at least one, is a real. -/
theorem isReal_fold_max {ι : Type} (S : Finset ι) (hS : S.Nonempty) (f : ι → EReal) (h : ∀ i ∈ S, IsReal (f i)) :
    IsReal (S.fold max ⊥ f) := by
  classical
  induction hS using Finset.Nonempty.cons_induction with
  | singleton a => simpa using h a (Finset.mem_singleton_self a)
  | cons a S ha hS ih =>
    rw [Finset.fold_cons]
    rcases max_choice (f a) (S.fold max ⊥ f) with hc | hc <;> rw [hc]
    · exact h a (Finset.mem_cons_self a S)
    · exact ih fun i hi => h i (Finset.mem_cons_of_mem hi)

/-- The largest score of a row. -/
def rowMax (s : Fin 64 → EReal) : EReal := (Finset.univ : Finset (Fin 64)).fold max ⊥ s

/-- A row's softmax, at expert `e`. -/
def prob (s : Fin 64 → EReal) (e : Fin 64) : EReal :=
  Ideal.div (Ideal.exp (s e - rowMax s)) (∑ k : Fin 64, Ideal.exp (s k - rowMax s))

/-- The softmax of finite scores is positive and finite. -/
theorem isPos_prob (s : Fin 64 → EReal) (hs : ∀ e, IsReal (s e)) (e : Fin 64) : IsPos (prob s e) := by
  have hM : IsReal (rowMax s) := isReal_fold_max _ Finset.univ_nonempty s fun i _ => hs i
  exact (isPos_exp ((hs e).sub hM)).div
    (isPos_sum _ Finset.univ_nonempty _ fun k _ => isPos_exp ((hs k).sub hM))

/-- The probabilities with all experts but the two chosen set to zero. -/
def kept (p : Fin 64 → EReal) (i0 i1 e : Fin 64) : EReal := if e = i0 ∨ e = i1 then p e else 0

/-- The weight of expert `e` among the two chosen: its kept probability over the sum of the kept ones. -/
def weight (p : Fin 64 → EReal) (i0 i1 e : Fin 64) : EReal :=
  Ideal.div (kept p i0 i1 e) (∑ k : Fin 64, kept p i0 i1 k)

/-- A nonnegative real factor moves into a finite sum of extended reals. -/
theorem mul_sum_of_nonneg {ι : Type} (S : Finset ι) (f : ι → EReal) (w : EReal) (h0 : 0 ≤ w) (ht : w ≠ ⊤) :
    ∑ i ∈ S, w * f i = w * ∑ i ∈ S, f i := by
  classical
  induction S using Finset.induction_on with
  | empty => simp
  | insert a S ha ih => rw [Finset.sum_insert ha, Finset.sum_insert ha, ih, EReal.left_distrib_of_nonneg_of_ne_top h0 ht]

/-- A sum over the experts of what vanishes off the two chosen ones has one or two terms. -/
theorem sum_chosen (i0 i1 : Fin 64) (f : Fin 64 → EReal) (h : ∀ e, ¬ (e = i0 ∨ e = i1) → f e = 0) :
    ∑ e : Fin 64, f e = if i0 = i1 then f i0 else f i0 + f i1 := by
  classical
  split
  · rename_i he
    subst he
    exact Finset.sum_eq_single i0 (fun e _ hne => h e (by simpa using hne)) (by simp)
  · rename_i he
    rw [← Finset.sum_subset (Finset.subset_univ {i0, i1}) fun e _ hne => h e (by simpa using hne), Finset.sum_pair he]

/-- Dividing the half of a positive real's double: `p / (p + p)`, twice, is one, over any extended real. -/
theorem half_add_half {p : EReal} (hp : IsPos p) (y : EReal) :
    Ideal.div p p * y = Ideal.div p (p + p) * y + Ideal.div p (p + p) * y := by
  obtain ⟨r, hr, rfl⟩ := hp
  have h1 : Ideal.div (r : EReal) (r : EReal) = ((1 : ℝ) : EReal) := by
    unfold Ideal.div
    rw [if_neg (by exact_mod_cast hr.ne'), ← EReal.coe_inv, ← EReal.coe_mul, mul_inv_cancel₀ hr.ne']
  have h2 : Ideal.div (r : EReal) ((r : EReal) + (r : EReal)) = ((2⁻¹ : ℝ) : EReal) := by
    unfold Ideal.div
    rw [← EReal.coe_add, if_neg (by exact_mod_cast (by positivity : (r + r) ≠ 0)), ← EReal.coe_inv, ← EReal.coe_mul]
    congr 1
    field_simp
    norm_num
  rw [h1, h2, ← EReal.right_distrib_of_nonneg (by exact_mod_cast (by norm_num : (0 : ℝ) ≤ 2⁻¹)) (by exact_mod_cast (by norm_num : (0 : ℝ) ≤ 2⁻¹)),
    ← EReal.coe_add]
  norm_num

/-- One output element: all the experts' products, each token element scaled by the expert's weight first, sum to the
    two chosen experts' outputs, each times its probability over the sum of the two. -/
theorem mix_eq (p : Fin 64 → EReal) (hp : ∀ e, IsPos (p e)) (i0 i1 : Fin 64) (x : Fin 128 → EReal)
    (W : Fin 64 → Fin 128 → EReal) :
    ∑ e : Fin 64, ∑ d : Fin 128, (x d * weight p i0 i1 e) * W e d
      = Ideal.div (p i0) (p i0 + p i1) * (∑ d : Fin 128, x d * W i0 d)
        + Ideal.div (p i1) (p i0 + p i1) * (∑ d : Fin 128, x d * W i1 d) := by
  have htot : ∑ k : Fin 64, kept p i0 i1 k = if i0 = i1 then p i0 else p i0 + p i1 := by
    rw [sum_chosen i0 i1 (kept p i0 i1) fun e he => if_neg he]
    simp [kept]
  have htotp : IsPos (∑ k : Fin 64, kept p i0 i1 k) := by
    rw [htot]
    split
    · exact hp i0
    · exact (hp i0).add (hp i1)
  have hoff : ∀ e, ¬ (e = i0 ∨ e = i1) → weight p i0 i1 e = 0 := by
    intro e he
    obtain ⟨r, hr, h⟩ := htotp
    unfold weight
    rw [kept, if_neg he, h, Ideal.div, if_neg (by exact_mod_cast hr.ne'), zero_mul]
  have hon : ∀ e, (e = i0 ∨ e = i1) → weight p i0 i1 e = Ideal.div (p e) (if i0 = i1 then p i0 else p i0 + p i1) := by
    intro e he
    rw [weight, htot, kept, if_pos he]
  have hnn : ∀ e, 0 ≤ weight p i0 i1 e ∧ weight p i0 i1 e ≠ ⊤ := by
    intro e
    by_cases he : e = i0 ∨ e = i1
    · have hq : IsPos (weight p i0 i1 e) := by
        rw [weight, kept, if_pos he]
        exact (hp e).div htotp
      obtain ⟨r, hr, h⟩ := hq
      rw [h]
      exact ⟨by exact_mod_cast hr.le, EReal.coe_ne_top r⟩
    · rw [hoff e he]
      exact ⟨le_refl 0, EReal.zero_ne_top⟩
  have hin : ∀ e, ∑ d : Fin 128, (x d * weight p i0 i1 e) * W e d = weight p i0 i1 e * ∑ d : Fin 128, x d * W e d := by
    intro e
    rw [← mul_sum_of_nonneg _ _ _ (hnn e).1 (hnn e).2]
    exact Finset.sum_congr rfl fun d _ => by rw [mul_comm (x d), mul_assoc]
  rw [Finset.sum_congr rfl fun e _ => hin e, sum_chosen i0 i1 _ fun e he => by rw [hoff e he, zero_mul]]
  rw [hon i0 (Or.inl rfl), hon i1 (Or.inr rfl)]
  split
  · rename_i he
    subst he
    exact half_add_half (hp i0) _
  · rfl

end Cert.MoeProof

end
-- ==== Proof.KernelRow.lean ====
module

public import proofs.«01_k».proof.Proof.Frames
public import proofs.«01_k».proof.Proof.Weights
public import Idealize.ShloMosaic.Lib.Pointwise

/-!
The kernel's vector arithmetic read at one element, over the extended reals: the masked probabilities, their sum, the
weights, the products, and the accumulated block of the result.
-/

@[expose] public section

set_option maxRecDepth 16384

noncomputable section

namespace Cert.MoeProof

open Cert.KernelIdeal Cert.KernelIdeal.Gen
open Idealize.ShloMosaic Idealize.ShloMosaic.TcCoe

/-- The word the maximum starts from is −∞. -/
theorem ofBits_negInf : Ideal.ofBits .f32 0xFF800000#32 = ⊥ := by simp [Ideal.ofBits, Ideal.ieee]

/-- The router's scores of token `r` of a block. -/
def scoreRow (x : Vec Ideal S256x128 .bf16) (w : Vec Ideal S128x64 .bf16) (r : Fin 256) (e : Fin 64) : EReal :=
  ∑ k : Fin 128, x (ix2 r k) * w (ix2 k e)

/-- The disjunction of two conditions' bits is their disjunction's bit. -/
theorem ori_ite (A B : Prop) [Decidable A] [Decidable B] :
    IntOp.ori (if A then 1#1 else 0#1) (if B then 1#1 else 0#1) = if A ∨ B then 1#1 else 0#1 := by
  by_cases hA : A <;> by_cases hB : B <;> simp [hA, hB, IntOp.ori]

/-- Expert `e`'s number as a word equals one of the two chosen numbers' words exactly when `e` is one of the two. -/
theorem pick_eq (e i0 i1 : Fin 64) (p : EReal) :
    Scalar.select (IntOp.ori (IntOp.cmpi .eq (BitVec.ofNat 32 e.val) (BitVec.ofNat 32 i0.val))
      (IntOp.cmpi .eq (BitVec.ofNat 32 e.val) (BitVec.ofNat 32 i1.val))) p 0 = if e = i0 ∨ e = i1 then p else 0 := by
  have hb : IntOp.ori (IntOp.cmpi .eq (BitVec.ofNat 32 e.val) (BitVec.ofNat 32 i0.val))
      (IntOp.cmpi .eq (BitVec.ofNat 32 e.val) (BitVec.ofNat 32 i1.val)) = if e = i0 ∨ e = i1 then 1#1 else 0#1 := by
    have heq : ∀ i : Fin 64, IntOp.cmpi .eq (BitVec.ofNat 32 e.val) (BitVec.ofNat 32 i.val) = if e = i then 1#1 else 0#1 := by
      revert e; decide
    rw [heq i0, heq i1]
    exact ori_ite _ _
  rw [hb]
  split <;> simp [Scalar.select]

variable {x : Vec Ideal S256x128 .bf16} {w : Vec Ideal S128x64 .bf16} {a b : Vec Ideal S256x1 .i32} {r : Fin 256} {i0 i1 : Fin 64}

/-- The kernel's masked probabilities are the softmax's, kept at the two chosen experts. -/
theorem pay3_apply (h0 : a (ix2 r 0) = BitVec.ofNat 32 i0.val) (h1 : b (ix2 r 0) = BitVec.ofNat 32 i1.val) (e : Fin 64) :
    k0_pay3 (F := Ideal) x w a b (ix2 r e) = kept (prob (scoreRow x w r)) i0 i1 e := by
  pointwise [k0_pay3, k0_pay2]
  rw [h0, h1, pick_eq, ofBits_negInf, max_bot_left]
  rfl

/-- The row's sum of them. -/
theorem pay4_apply (h0 : a (ix2 r 0) = BitVec.ofNat 32 i0.val) (h1 : b (ix2 r 0) = BitVec.ofNat 32 i1.val) :
    k0_pay4 (F := Ideal) x w a b (ix2 r 0) = ∑ e : Fin 64, kept (prob (scoreRow x w r)) i0 i1 e := by
  rw [← Finset.sum_congr rfl fun e _ => pay3_apply h0 h1 e]
  pointwise [k0_pay4]

/-- The kernel's weights. -/
theorem pay5_apply (h0 : a (ix2 r 0) = BitVec.ofNat 32 i0.val) (h1 : b (ix2 r 0) = BitVec.ofNat 32 i1.val) (e : Fin 64) :
    k0_pay5 (F := Ideal) (k0_pay3 x w a b) (k0_pay4 x w a b) (ix2 r e) = weight (prob (scoreRow x w r)) i0 i1 e := by
  unfold weight
  rw [← pay4_apply h0 h1, ← pay3_apply h0 h1]
  pointwise [k0_pay5]

/-- One device's two experts' matrices as rows: row `k` is row `k % 128` of the matrix `k / 128`. -/
theorem pay6_apply (W : Vec Ideal S2x128x256 .bf16) (k : Fin 256) (h : Fin 256) :
    k0_pay6 (F := Ideal) W (ix2 k h) = W (ix3 ⟨k.val / 128, by omega⟩ ⟨k.val % 128, by omega⟩ h) := by
  pointwise [k0_pay6]

/-- A token's element times an expert's weight. -/
theorem xgBlk_apply (v : FVec Ideal S256x128 .bf16) (u : FVec Ideal S256x64 .f32) (e : Fin 64) (r : Fin 256) (d : Fin 128) :
    xgBlk (F := Ideal) v u e (ix2 r d) = (v (ix2 r d) : EReal) * u (ix2 r e) := by
  pointwise [xgBlk]

/-- The sum over one group of 2048 columns of the products. -/
def groupSum (A : Vec Ideal S256x2048 .bf16) (B : Vec Ideal S2048x256 .bf16) (r h : Fin 256) : EReal :=
  ∑ k : Fin 2048, A (ix2 r k) * B (ix2 k h)

theorem pay83_apply (A : Vec Ideal S256x2048 .bf16) (B : Vec Ideal S2048x256 .bf16) (r h : Fin 256) :
    k0_pay83 (F := Ideal) A B (ix2 r h) = groupSum A B r h := by
  pointwise [k0_pay83, groupSum]

theorem pay84_apply (A : Vec Ideal S256x2048 .bf16) (B : Vec Ideal S2048x256 .bf16) (p : Vec Ideal S256x256 .f32) (r h : Fin 256) :
    k0_pay84 (F := Ideal) A B p (ix2 r h) = (p (ix2 r h) : EReal) + groupSum A B r h := by
  pointwise [k0_pay84, groupSum]

theorem pay85_apply (A : Vec Ideal S256x2048 .bf16) (B : Vec Ideal S2048x256 .bf16) (p : Vec Ideal S256x256 .f32) (r h : Fin 256) :
    k0_pay85 (F := Ideal) A B p (ix2 r h) = (p (ix2 r h) : EReal) + groupSum A B r h := by
  pointwise [k0_pay85, groupSum]

theorem pay1_apply (A : Vec Ideal S256x2048 .bf16) (B : Vec Ideal S2048x256 .bf16) (p : Vec Ideal S256x256 .f32) (r h : Fin 256) :
    k0_pay1 (F := Ideal) A B p (ix2 r h) = (p (ix2 r h) : EReal) + groupSum A B r h := by
  pointwise [k0_pay1, groupSum]

end Cert.MoeProof

end
-- ==== Proof.KernelOut.lean ====
module

public import proofs.«01_k».proof.Proof.KernelRow

/-!
One element of a device's block of the result: the sum over the 64 experts and the 128 features of the token's element,
times the expert's weight, times the element of the expert's matrix, wherever that matrix lives.
-/

@[expose] public section

set_option maxRecDepth 16384

noncomputable section

namespace Cert.MoeProof

open Cert.KernelIdeal Cert.KernelIdeal.Gen
open Idealize.ShloMosaic Idealize.ShloMosaic.TcCoe

variable (m : (ℓ : Loc nD τ sig) → Buf (Elt Ideal) ℓ) (ρ : Dev nD → PrngReg)

/-- Column `k` of group `g` of the products is column `2048 g + k`: feature `k % 128` of expert `16 g + k / 128`. -/
theorem xgOf_apply (v : FVec Ideal S256x128 .bf16) (u : FVec Ideal S256x64 .f32) (g : Fin 4) (r : Fin 256) (k : Fin 2048) :
    (xgOf (F := Ideal) v u g (ix2 r k) : EReal)
      = v (ix2 r ⟨k.val % 128, by omega⟩) * u (ix2 r ⟨16 * g.val + k.val / 128, by omega⟩) := by
  have hx : xgOf (F := Ideal) v u g (ix2 r k) = xgAll v u (ix2 r ⟨2048 * g.val + k.val, by omega⟩) := by
    show xgAll v u _ = _
    congr 1
    funext a
    refine Fin.ext ?_
    match a with
    | ⟨0, _⟩ => show 0 + 1 * r.val = r.val; omega
    | ⟨1, _⟩ => show 2048 * g.val + 1 * k.val = 2048 * g.val + k.val; omega
  have ho : colOwner (ix2 r ⟨2048 * g.val + k.val, by omega⟩) = ⟨16 * g.val + k.val / 128, by omega⟩ := by
    refine Fin.ext ?_
    show (2048 * g.val + k.val) / 128 = 16 * g.val + k.val / 128
    omega
  have hi : inBlk (ix2 r ⟨2048 * g.val + k.val, by omega⟩) = ix2 r ⟨k.val % 128, by omega⟩ := by
    rw [ix2_eq_valueIdx r]
    unfold inBlk
    congr 1
    refine Fin.ext ?_
    show (2048 * g.val + k.val) % 128 = k.val % 128
    omega
  rw [hx, xgAll, ho, hi, xgBlk_apply]

/-- Row `k` of group `g` of the experts' matrices: row `k % 128` of expert `16 g + k / 128`, which is one of the two
    that device `8 g + k / 256` owns. -/
theorem wtsOf_apply (g : Fin 4) (k : Fin 2048) (h : Fin 256) :
    wtsOf (F := Ideal) m ρ g (ix2 k h)
      = wstg m ρ ⟨8 * g.val + k.val / 256, show _ < 32 by omega⟩
          (ix3 ⟨k.val % 256 / 128, by omega⟩ ⟨k.val % 128, by omega⟩ h) := by
  have hx : wtsOf (F := Ideal) m ρ g (ix2 k h) = commAll m ρ (ix2 ⟨2048 * g.val + k.val, by omega⟩ h) := by
    show commAll m ρ _ = _
    congr 1
    funext a
    refine Fin.ext ?_
    match a with
    | ⟨0, _⟩ => show 2048 * g.val + 1 * k.val = 2048 * g.val + k.val; omega
    | ⟨1, _⟩ => show 0 + 1 * h.val = h.val; omega
  have ho : ownerOf (ix2 ⟨2048 * g.val + k.val, by omega⟩ h) = ⟨8 * g.val + k.val / 256, show _ < 32 by omega⟩ := by
    refine Fin.ext ?_
    show (2048 * g.val + k.val) / 256 = 8 * g.val + k.val / 256
    omega
  have hi : inSlot (ix2 ⟨2048 * g.val + k.val, by omega⟩ h) = ix2 ⟨k.val % 256, by omega⟩ h := by
    rw [ix2_eq_valueIdx _ h, ix2_eq_valueIdx _ h]
    unfold inSlot
    congr 1
    refine Fin.ext ?_
    show (2048 * g.val + k.val) % 256 = k.val % 256
    omega
  rw [hx, commAll, ho, hi, pay6_apply]
  congr 2
  refine Fin.ext ?_
  show k.val % 256 % 128 = k.val % 128
  omega

/-- The two columns of experts' numbers. -/
theorem icol0_apply (c : Dev nD) (r : Fin 256) : icol0 (F := Ideal) m ρ c (ix2 r 0) = istg m ρ c (ix2 r 0) := by
  show istg m ρ c _ = _
  congr 1
  funext a
  refine Fin.ext ?_
  match a with
  | ⟨0, _⟩ => show 0 + 1 * r.val = r.val; omega
  | ⟨1, _⟩ => rfl
theorem icol1_apply (c : Dev nD) (r : Fin 256) : icol1 (F := Ideal) m ρ c (ix2 r 0) = istg m ρ c (ix2 r 1) := by
  show istg m ρ c _ = _
  congr 1
  funext a
  refine Fin.ext ?_
  match a with
  | ⟨0, _⟩ => show 0 + 1 * r.val = r.val; omega
  | ⟨1, _⟩ => rfl

/-- Expert `e`'s matrix, where its owner keeps it. -/
def ownW (e : Fin 64) (d : Fin 128) (h : Fin 256) : EReal :=
  wstg (F := Ideal) m ρ ⟨e.val / 2, show _ < 32 by omega⟩ (ix3 ⟨e.val % 2, by omega⟩ d h)

/-- Element `d` of the device's token `r`. -/
def tok (c : Dev nD) (r : Fin 256) (d : Fin 128) : EReal := xstg (F := Ideal) m ρ c (ix2 r d)

/-- Group `g`'s sum is that over its sixteen experts. -/
theorem groupSum_eq (v : FVec Ideal S256x128 .bf16) (u : FVec Ideal S256x64 .f32) (g : Fin 4) (r h : Fin 256) :
    groupSum (xgOf (F := Ideal) v u g) (wtsOf m ρ g) r h
      = ∑ j : Fin 16, ∑ d : Fin 128, (v (ix2 r d) * u (ix2 r ⟨16 * g.val + j.val, by omega⟩) : EReal)
          * ownW m ρ ⟨16 * g.val + j.val, by omega⟩ d h := by
  unfold groupSum
  rw [← (finProdFinEquiv (m := 16) (n := 128)).sum_comp, Fintype.sum_prod_type]
  refine Finset.sum_congr rfl fun j _ => Finset.sum_congr rfl fun d _ => ?_
  have h1 : (⟨(finProdFinEquiv (m := 16) (n := 128) (j, d)).val % 128, by omega⟩ : Fin 128) = d :=
    Fin.ext (show (d.val + 128 * j.val) % 128 = d.val by omega)
  have h2 : (⟨16 * g.val + (finProdFinEquiv (m := 16) (n := 128) (j, d)).val / 128, by omega⟩ : Fin 64) = ⟨16 * g.val + j.val, by omega⟩ :=
    Fin.ext (show 16 * g.val + (d.val + 128 * j.val) / 128 = 16 * g.val + j.val by omega)
  have h3 : (⟨(finProdFinEquiv (m := 16) (n := 128) (j, d)).val % 256 / 128, by omega⟩ : Fin 2) = ⟨(16 * g.val + j.val) % 2, by omega⟩ :=
    Fin.ext (show (d.val + 128 * j.val) % 256 / 128 = (16 * g.val + j.val) % 2 by omega)
  have h4 : (⟨8 * g.val + (finProdFinEquiv (m := 16) (n := 128) (j, d)).val / 256, show _ < 32 by omega⟩ : Dev nD)
      = ⟨(16 * g.val + j.val) / 2, show _ < 32 by omega⟩ :=
    Fin.ext (show 8 * g.val + (d.val + 128 * j.val) / 256 = (16 * g.val + j.val) / 2 by omega)
  rw [xgOf_apply, wtsOf_apply, ownW, h1, h2, h3, h4]

/-- One element of the block. -/
theorem outAt_apply (c : Dev nD) (r h : Fin 256) {i0 i1 : Fin 64} (h0 : istg m ρ c (ix2 r 0) = BitVec.ofNat 32 i0.val)
    (h1 : istg m ρ c (ix2 r 1) = BitVec.ofNat 32 i1.val) :
    outAt (F := Ideal) m ρ c (ix2 r h)
      = ∑ e : Fin 64, ∑ d : Fin 128,
          (tok m ρ c r d * weight (prob (scoreRow (xstg m ρ c) (rstg m ρ c) r)) i0 i1 e) * ownW m ρ e d h := by
  have hw : ∀ e : Fin 64, wv (F := Ideal) m ρ c (ix2 r e) = weight (prob (scoreRow (xstg m ρ c) (rstg m ρ c) r)) i0 i1 e := by
    intro e
    exact pay5_apply ((icol0_apply m ρ c r).trans h0) ((icol1_apply m ρ c r).trans h1) e
  have hx : ∀ d : Fin 128, xv (F := Ideal) m ρ c (ix2 r d) = tok m ρ c r d := by
    intro d
    pointwise [xv, k0_pay2, tok]
  unfold outAt
  rw [pay1_apply, pay85_apply, pay84_apply, pay83_apply, groupSum_eq, groupSum_eq, groupSum_eq, groupSum_eq]
  simp only [hw, hx]
  rw [← (finProdFinEquiv (m := 4) (n := 16)).sum_comp, Fintype.sum_prod_type, Fin.sum_univ_four]
  have hk : ∀ (g : Fin 4) (j : Fin 16), finProdFinEquiv (m := 4) (n := 16) (g, j) = ⟨16 * g.val + j.val, by omega⟩ :=
    fun g j => Fin.ext (by show j.val + 16 * g.val = 16 * g.val + j.val; omega)
  simp only [hk]

end Cert.MoeProof

end
-- ==== Proof.Gathers.lean ====
module

public import proofs.«01_k».proof.Proof.Gen.ReferenceIdeal
public import Idealize.ShloMosaic.Lib.Pointwise

/-!
The reference's two gathers read at one element: an expert's matrix out of the stack of all, and a row's entry out of
its sixty-four, at an expert's number that is in range.
-/

@[expose] public section

noncomputable section

namespace Cert.MoeProof.Ref

open Cert.ReferenceIdeal Cert.ReferenceIdeal.Gen
open Idealize.ShloMosaic Idealize.ShloMosaic.TcCoe

/-- An expert's number as a word, read back signed and clamped to the last expert, is the number. -/
theorem clamp_expert (e : Fin 64) : min (BitVec.ofNat 32 e.val).toInt.toNat 63 = e.val := by revert e; decide

local notation "gW" => gather_S64x128x256_S8192x1_S8192x128x256_12_0_n_n_0_1_1128256
local notation "gP" => gather_S8192x64_S8192x2x1_S8192x2_n_1_0_0_1_2_11

/-- Token `t`'s gathered matrix is the matrix of the expert its index names. -/
theorem gatherW_apply {α : Type} (W : S64x128x256.Idx → α) (idx : IVec S8192x1 32) (t : Fin 8192) (d : Fin 128) (h : Fin 256)
    (e : Fin 64) (he : idx (ix2 t 0) = BitVec.ofNat 32 e.val) : Host.gather gW W idx (ix3 t d h) = W (ix3 e d h) := by
  unfold Host.gather
  congr 1
  funext a
  refine Fin.ext ?_
  show (gW).start (ix3 t d h) idx a + (gW).batchCoord (ix3 t d h) a + (gW).offCoord (ix3 t d h) a = _
  rw [GatherDims.batchCoord_eq_zero _ _ _ List.not_mem_nil]
  match a with
  | ⟨0, _⟩ =>
    have hsi : (gW).siIdx (ix3 t d h) ⟨List.idxOf (0 : Fin 3) (gW).startIndexMap,
        List.idxOf_lt_length_iff.2 (List.mem_singleton.mpr rfl)⟩ = ix2 t 0 := by
      funext b; refine Fin.ext ?_
      match b with
      | ⟨0, _⟩ => rfl
      | ⟨1, _⟩ => rfl
    change (gW).start (ix3 t d h) idx (0 : Fin 3) + 0 + (gW).offCoord (ix3 t d h) (0 : Fin 3) = e.val
    rw [GatherDims.offCoord_eq_zero _ _ _ (fun hk => ((GatherDims.mem_sKept _ _).mp hk).1 (List.mem_singleton.mpr rfl))]
    unfold GatherDims.start
    rw [dif_pos (show (0 : Fin 3) ∈ (gW).startIndexMap from List.mem_singleton.mpr rfl), hsi, he]
    exact clamp_expert e
  | ⟨1, _⟩ =>
    change (gW).start (ix3 t d h) idx (1 : Fin 3) + 0 + (gW).offCoord (ix3 t d h) (1 : Fin 3) = d.val
    unfold GatherDims.start
    rw [dif_neg (show (1 : Fin 3) ∉ (gW).startIndexMap from by decide)]
    show 0 + 0 + _ = _
    rw [Nat.zero_add]
    rfl
  | ⟨2, _⟩ =>
    change (gW).start (ix3 t d h) idx (2 : Fin 3) + 0 + (gW).offCoord (ix3 t d h) (2 : Fin 3) = h.val
    unfold GatherDims.start
    rw [dif_neg (show (2 : Fin 3) ∉ (gW).startIndexMap from by decide)]
    show 0 + 0 + _ = _
    rw [Nat.zero_add]
    rfl

/-- Token `t`'s gathered entry for its choice `j` is the row's entry at the expert that choice names. -/
theorem gatherP_apply {α : Type} (P : S8192x64.Idx → α) (idx : IVec S8192x2x1 32) (t : Fin 8192) (j : Fin 2)
    (e : Fin 64) (he : idx (ix3 t j 0) = BitVec.ofNat 32 e.val) : Host.gather gP P idx (ix2 t j) = P (ix2 t e) := by
  unfold Host.gather
  congr 1
  funext a
  refine Fin.ext ?_
  show (gP).start (ix2 t j) idx a + (gP).batchCoord (ix2 t j) a + (gP).offCoord (ix2 t j) a = _
  match a with
  | ⟨0, _⟩ =>
    change (gP).start (ix2 t j) idx (0 : Fin 2) + (gP).batchCoord (ix2 t j) (0 : Fin 2) + (gP).offCoord (ix2 t j) (0 : Fin 2) = t.val
    rw [GatherDims.start_batching _ _ _ _ (List.mem_singleton.mpr rfl),
      GatherDims.offCoord_eq_zero _ _ _ (fun hk => ((GatherDims.mem_sKept _ _).mp hk).2 (List.mem_singleton.mpr rfl))]
    unfold GatherDims.batchCoord
    rw [dif_pos (show (0 : Fin 2) ∈ (gP).operandBatchingDims from List.mem_singleton.mpr rfl), Nat.zero_add, Nat.add_zero]
    rfl
  | ⟨1, _⟩ =>
    have hsi : (gP).siIdx (ix2 t j) ⟨List.idxOf (1 : Fin 2) (gP).startIndexMap,
        List.idxOf_lt_length_iff.2 (List.mem_singleton.mpr rfl)⟩ = ix3 t j 0 := by
      funext b; refine Fin.ext ?_
      match b with
      | ⟨0, _⟩ => rfl
      | ⟨1, _⟩ => rfl
      | ⟨2, _⟩ => rfl
    change (gP).start (ix2 t j) idx (1 : Fin 2) + (gP).batchCoord (ix2 t j) (1 : Fin 2) + (gP).offCoord (ix2 t j) (1 : Fin 2) = e.val
    rw [GatherDims.batchCoord_eq_zero _ _ _ (show (1 : Fin 2) ∉ (gP).operandBatchingDims from by decide),
      GatherDims.offCoord_eq_zero _ _ _ (fun hk => ((GatherDims.mem_sKept _ _).mp hk).1 (List.mem_singleton.mpr rfl))]
    unfold GatherDims.start
    rw [dif_pos (show (1 : Fin 2) ∈ (gP).startIndexMap from List.mem_singleton.mpr rfl), hsi, he]
    exact clamp_expert e

end Cert.MoeProof.Ref

end
-- ==== Proof.RefRow.lean ====
module

public import proofs.«01_k».proof.Proof.Gen.ReferenceIdeal.Run
public import proofs.«01_k».proof.Proof.Weights
public import proofs.«01_k».proof.Proof.Gathers
public import Idealize.ShloMosaic.Lib.Pointwise

/-!
One element of the reference's result, over the extended reals: the two chosen experts' outputs, each times its
probability over the sum of the two.
-/

@[expose] public section

set_option maxRecDepth 16384

noncomputable section

namespace Cert.MoeProof.Ref

open Cert.ReferenceIdeal Cert.ReferenceIdeal.Gen
open Idealize.ShloMosaic Idealize.ShloMosaic.TcCoe

/-- The word the maximum starts from is −∞. -/
theorem ofBits_negInf : Ideal.ofBits .f32 0xFF800000#32 = ⊥ := by simp [Ideal.ofBits, Ideal.ieee]

/-- An expert's number is not negative, so counting from the end never applies. -/
theorem wrap_expert (e : Fin 64) :
    Scalar.select (IntOp.cmpi .slt (BitVec.ofNat 32 e.val) 0#32) (IntOp.addi (BitVec.ofNat 32 e.val) 64#32) (BitVec.ofNat 32 e.val)
      = BitVec.ofNat 32 e.val := by
  revert e; decide

/-- An expert's number passes the test of being one of 0 to 63. -/
theorem inRange_expert (e : Fin 64) :
    IntOp.andi (IntOp.cmpi .sge (BitVec.ofNat 32 e.val) 0#32) (IntOp.cmpi .sle (BitVec.ofNat 32 e.val) 63#32) = 1#1 := by
  revert e; decide

/-- A test that passes at the one place of an axis of length one passes. -/
theorem fold_one : (Finset.univ : Finset (Fin 1)).fold IntOp.andi 1#1 (fun _ => 1#1) = 1#1 := by decide

/-- What a passed test selects. -/
theorem select_one (a b : EReal) : Scalar.select 1#1 a b = a := by simp [Scalar.select]

variable (m : (ℓ : Loc nD τ sig) → Buf (Elt Ideal) ℓ) (c : Dev nD)

/-- The tokens, the router's weights, the chosen experts' numbers and the experts' matrices. -/
def tok (t : Fin 8192) (d : Fin 128) : EReal := m ((c.tc : Thread nD τ).loc main_arg0) (ix2 t d)
def rou (k : Fin 128) (e : Fin 64) : EReal := m ((c.tc : Thread nD τ).loc main_arg1) (ix2 k e)
def pickW (t : Fin 8192) (j : Fin 2) : BitVec 32 := m ((c.tc : Thread nD τ).loc main_arg2) (ix2 t j)
def mat (e : Fin 64) (d : Fin 128) (h : Fin 256) : EReal := m ((c.tc : Thread nD τ).loc main_arg3) (ix3 e d h)

/-- The scores of token `t`. -/
def score (t : Fin 8192) (e : Fin 64) : EReal := ∑ k : Fin 128, tok m c t k * rou m c k e

/-- One element of the result. -/
theorem res_apply (t : Fin 8192) (h : Fin 256) {i0 i1 : Fin 64} (h0 : pickW m c t 0 = BitVec.ofNat 32 i0.val)
    (h1 : pickW m c t 1 = BitVec.ofNat 32 i1.val) :
    Cert.ReferenceIdeal.Value.res_main_v43 m c (ix2 t h)
      = Ideal.div (prob (score m c t) i0) (prob (score m c t) i0 + prob (score m c t) i1) * (∑ d : Fin 128, tok m c t d * mat m c i0 d h)
        + Ideal.div (prob (score m c t) i1) (prob (score m c t) i0 + prob (score m c t) i1) * (∑ d : Fin 128, tok m c t d * mat m c i1 d h) := by
  have h0' : m ((c.tc : Thread nD τ).loc main_arg2) (ix2 t 0) = BitVec.ofNat 32 i0.val := h0
  have h1' : m ((c.tc : Thread nD τ).loc main_arg2) (ix2 t 1) = BitVec.ofNat 32 i1.val := h1
  pointwise [Cert.ReferenceIdeal.Value.res_main_v43]
  rw [gatherP_apply _ _ t 0 i0, gatherP_apply _ _ t 1 i1]
  · simp only [h0', h1', wrap_expert, inRange_expert, fold_one, select_one]
    refine congrArg₂ (· + ·) (congrArg₂ (· * ·) ?_ (Finset.sum_congr rfl fun d _ => congrArg₂ (· * ·) rfl ?_))
      (congrArg₂ (· * ·) ?_ (Finset.sum_congr rfl fun d _ => congrArg₂ (· * ·) rfl ?_))
    · pointwise [ofBits_negInf]
      rfl
    · rw [gatherW_apply _ _ t d h i0]
      · pointwise [mat]
      · pointwise
        rw [h0', wrap_expert]
    · pointwise [ofBits_negInf]
      rfl
    · rw [gatherW_apply _ _ t d h i1]
      · pointwise [mat]
      · pointwise
        rw [h1', wrap_expert]
  · pointwise
    rw [h1', wrap_expert]
  · pointwise
    rw [h0', wrap_expert]

end Cert.MoeProof.Ref

end
-- ==== Proof.Accepted.lean ====
module

public import proofs.«01_k».proof.Pre_finite_and_routed_KernelIdeal
public import proofs.«01_k».proof.Pre_finite_and_routed_ReferenceIdeal
public import proofs.«01_k».proof.Proof.Weights
public import Idealize.ShloMosaic.Lib.Pointwise
public import Idealize.ShloMosaic.Lib.ReduceAll

/-!
What the precondition says of one device's arguments: its tokens and the router's weights are real numbers, and each
of its choices is the word of an expert's number.
-/

@[expose] public section

noncomputable section

namespace Cert.MoeProof

open Idealize.ShloMosaic

/-- The shape relations the precondition's operations take, of one device's blocks. -/
theorem preFacts : Cert.Pre_finite_and_routed_KernelIdeal.Facts where
  bcast_S_S256x128 := by decide
  reducesTo_S256x128_S_d0_1 := by decide
  h_S_ := by decide
  bcast_S_S128x64 := by decide
  reducesTo_S128x64_S_d0_1 := by decide
  bcast_S_S256x2 := by decide
  reducesTo_S256x2_S_d0_1 := by decide

/-- The same, of the whole arrays. -/
theorem preFactsWhole : Cert.Pre_finite_and_routed_ReferenceIdeal.Facts where
  bcast_S_S8192x128 := by decide
  reducesTo_S8192x128_S_d0_1 := by decide
  h_S_ := by decide
  bcast_S_S128x64 := by decide
  reducesTo_S128x64_S_d0_1 := by decide
  bcast_S_S8192x2 := by decide
  reducesTo_S8192x2_S_d0_1 := by decide

/-- A conjunction of two bits that is 1 has both bits 1. -/
theorem andi_one {a b : BitVec 1} (h : IntOp.andi a b = 1#1) : a = 1#1 ∧ b = 1#1 := by
  revert a b; decide

/-- A number whose absolute value compares below the word of +∞ is a real. -/
theorem isReal_of_cmp {t : EReal} (h : FloatOps.cmpf (F := Ideal) (φ := .bf16) .olt (FloatOps.hostAbsf t) (Ideal.ofBits .bf16 0x7F80#16) = 1#1) :
    IsReal t := by
  have htop : Ideal.ofBits .bf16 0x7F80#16 = ⊤ := by simp [Ideal.ofBits, Ideal.ieee]
  have h' : Ideal.cmp .olt (max t (-t)) (Ideal.ofBits .bf16 0x7F80#16) = 1#1 := h
  rw [htop] at h'
  refine isReal_of_abs_lt ?_
  by_contra hc
  simp [Ideal.cmp, hc] at h'

/-- A word between 0 and 63, read signed, is the word of an expert's number. -/
theorem expert_of_cmp {w : BitVec 32} (h0 : IntOp.cmpi .sge w 0#32 = 1#1) (h1 : IntOp.cmpi .slt w 64#32 = 1#1) :
    ∃ e : Fin 64, w = BitVec.ofNat 32 e.val := by
  have a0 : (0#32).sle w = true := by
    by_contra hc
    have h0 : BitVec.ofBool ((0#32).sle w) = 1#1 := h0
    rw [Bool.eq_false_iff.mpr hc] at h0
    exact absurd h0 (by decide)
  have a1 : w.slt 64#32 = true := by
    by_contra hc
    have h1 : BitVec.ofBool (w.slt 64#32) = 1#1 := h1
    rw [Bool.eq_false_iff.mpr hc] at h1
    exact absurd h1 (by decide)
  have hlt : w.toNat < 64 := by
    simp only [BitVec.sle, BitVec.slt, decide_eq_true_eq, BitVec.toInt_eq_toNat_cond] at a0 a1
    have := w.isLt
    simp at a0 a1
    split at a0 <;> omega
  exact ⟨⟨w.toNat, hlt⟩, by simp⟩

open Cert.Pre_finite_and_routed_KernelIdeal

attribute [local instance] preFacts

/-- The precondition, read off. -/
theorem accepted (a0 : FVec Ideal S256x128 .bf16) (a1 : FVec Ideal S128x64 .bf16) (a2 : IVec S256x2 32) (a3 : FVec Ideal S2x128x256 .bf16)
    (h : Cert.Pre_finite_and_routed_KernelIdeal.fn (F := Ideal) a0 a1 a2 a3 = fun _ => 1#1) :
    (∀ i, IsReal (a0 i)) ∧ (∀ i, IsReal (a1 i)) ∧ ∀ i, ∃ e : Fin 64, a2 i = BitVec.ofNat 32 e.val := by
  have : Subsingleton S_.Idx := ⟨fun a b => funext fun k => k.elim0⟩
  have h0 := congrFun h ix0
  obtain ⟨hf, hr⟩ := andi_one h0
  obtain ⟨hx, hw⟩ := andi_one hf
  refine ⟨fun i => ?_, fun i => ?_, fun i => ?_⟩
  · exact isReal_of_cmp (Host.reduce_andi_all _ _ _ _ _ hx i)
  · exact isReal_of_cmp (Host.reduce_andi_all _ _ _ _ _ hw i)
  · obtain ⟨hl, hu⟩ := andi_one (Host.reduce_andi_all _ _ _ _ _ hr i)
    exact expert_of_cmp hl hu

end Cert.MoeProof

end
-- ==== Proof.Value.lean ====
module

public import proofs.«01_k».proof.Defs
public import proofs.«01_k».proof.Proof.Frames
public import proofs.«01_k».proof.Proof.KernelOut
public import proofs.«01_k».proof.Proof.RefRow
public import proofs.«01_k».proof.Proof.Accepted

/-!
The kernel's result over the extended reals: on accepted arguments each device's block of it is that device's block of
the reference's result.
-/

@[expose] public section

set_option maxRecDepth 16384

noncomputable section

namespace Cert.MoeProof

open Cert.KernelIdeal Cert.KernelIdeal.Gen
open Idealize.ShloMosaic Idealize.ShloMosaic.TcCoe
open Idealize.SL.Sem

attribute [local instance] preFacts

section Args

variable (m : (ℓ : Loc nD τ sig) → Buf (Elt Ideal) ℓ) (ρ : Dev nD → PrngReg) (c : Dev nD)

/-- Each argument's one block is the whole of it, so what the kernel stages is the argument. -/
theorem xstg_eq : xstg (F := Ideal) m ρ c = m ((c : Thread nD τ).loc main_arg0) :=
  Memref.read_access_unit_zero (Elt Ideal) main_arg0
    (show (fun a => (win0_0.index t0_0) a * main_arg0.ty.shape.size a) = fun _ => 0 from
      funext fun a => by fin_cases a <;> decide) (fun a => by fin_cases a <;> decide) _
theorem rstg_eq : rstg (F := Ideal) m ρ c = m ((c : Thread nD τ).loc main_arg1) :=
  Memref.read_access_unit_zero (Elt Ideal) main_arg1
    (show (fun a => (win0_1.index t0_0) a * main_arg1.ty.shape.size a) = fun _ => 0 from
      funext fun a => by fin_cases a <;> decide) (fun a => by fin_cases a <;> decide) _
theorem istg_eq : istg (F := Ideal) m ρ c = m ((c : Thread nD τ).loc main_arg2) :=
  Memref.read_access_unit_zero (Elt Ideal) main_arg2
    (show (fun a => (win0_2.index t0_0) a * main_arg2.ty.shape.size a) = fun _ => 0 from
      funext fun a => by fin_cases a <;> decide) (fun a => by fin_cases a <;> decide) _
theorem wstg_eq : wstg (F := Ideal) m ρ c = m ((c : Thread nD τ).loc main_arg3) :=
  Memref.read_access_unit_zero (Elt Ideal) main_arg3
    (show (fun a => (win0_3.index t0_0) a * main_arg3.ty.shape.size a) = fun _ => 0 from
      funext fun a => by fin_cases a <;> decide) (fun a => by fin_cases a <;> decide) _

end Args

/-- Row `r` of device `c`'s block is row `256 c + r` of the whole. -/
def rowOf (c : Dev nD) (r : Fin 256) : Fin 8192 := ⟨c.val * 256 + r.val, by have : c.val < 32 := c.isLt; omega⟩

/-- What the claim supposes of the two memories' arguments: each device holds its block, or its copy, of the
    reference's arrays. -/
def Cut (m : (ℓ : Loc nD τ sig) → Buf (Elt Ideal) ℓ)
    (m' : (ℓ : Loc Cert.ReferenceIdeal.nD Cert.ReferenceIdeal.τ Cert.ReferenceIdeal.sig) → Buf (Elt Ideal) ℓ) : Prop :=
  ∀ c : Dev nD,
    m ((c.tc : Thread nD τ).loc main_arg0) = Layout.block ⟨2, ![256, 128]⟩ ⟨2, ![8192, 128]⟩ 0 32 c (m' (((0 : Dev Cert.ReferenceIdeal.nD).tc : Thread Cert.ReferenceIdeal.nD Cert.ReferenceIdeal.τ).loc Cert.ReferenceIdeal.main_arg0))
    ∧ m ((c.tc : Thread nD τ).loc main_arg1) = m' (((0 : Dev Cert.ReferenceIdeal.nD).tc : Thread Cert.ReferenceIdeal.nD Cert.ReferenceIdeal.τ).loc Cert.ReferenceIdeal.main_arg1)
    ∧ m ((c.tc : Thread nD τ).loc main_arg2) = Layout.block ⟨2, ![256, 2]⟩ ⟨2, ![8192, 2]⟩ 0 32 c (m' (((0 : Dev Cert.ReferenceIdeal.nD).tc : Thread Cert.ReferenceIdeal.nD Cert.ReferenceIdeal.τ).loc Cert.ReferenceIdeal.main_arg2))
    ∧ m ((c.tc : Thread nD τ).loc main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))

section Agree

variable {m : (ℓ : Loc nD τ sig) → Buf (Elt Ideal) ℓ}
  {m' : (ℓ : Loc Cert.ReferenceIdeal.nD Cert.ReferenceIdeal.τ Cert.ReferenceIdeal.sig) → Buf (Elt Ideal) ℓ}
  (ρ : Dev nD → PrngReg) (hc : Cut m m') (c : Dev nD)

include hc

/-- The device's token `r` is the reference's token `256 c + r`. -/
theorem tok_agree (r : Fin 256) (d : Fin 128) : tok m ρ c r d = Ref.tok m' 0 (rowOf c r) d := by
  unfold tok Ref.tok
  rw [xstg_eq, (hc c).1]
  show m' _ _ = m' _ _
  congr 1
  funext a
  refine Fin.ext ?_
  match a with
  | ⟨0, _⟩ => rfl
  | ⟨1, _⟩ => rfl

/-- The scores of a token are the same. -/
theorem score_agree (r : Fin 256) : scoreRow (xstg m ρ c) (rstg m ρ c) r = Ref.score m' 0 (rowOf c r) := by
  funext e
  unfold scoreRow Ref.score
  refine Finset.sum_congr rfl fun k _ => congrArg₂ (· * ·) (tok_agree ρ hc c r k) ?_
  rw [rstg_eq, (hc c).2.1]
  rfl

/-- The chosen experts' numbers are the same. -/
theorem pick_agree (r : Fin 256) (j : Fin 2) : istg m ρ c (ix2 r j) = Ref.pickW m' 0 (rowOf c r) j := by
  unfold Ref.pickW
  rw [istg_eq, (hc c).2.2.1]
  show m' _ _ = m' _ _
  congr 1
  funext a
  refine Fin.ext ?_
  match a with
  | ⟨0, _⟩ => rfl
  | ⟨1, _⟩ => rfl

/-- An expert's matrix, where its owner keeps it, is the reference's. -/
theorem mat_agree (e : Fin 64) (d : Fin 128) (h : Fin 256) : ownW m ρ e d h = Ref.mat m' 0 e d h := by
  unfold ownW Ref.mat
  rw [wstg_eq, (hc _).2.2.2]
  show m' _ _ = m' _ _
  congr 1
  funext a
  refine Fin.ext ?_
  match a with
  | ⟨0, _⟩ => show e.val / 2 * 2 + e.val % 2 = e.val; omega
  | ⟨1, _⟩ => rfl
  | ⟨2, _⟩ => rfl

/-- On accepted arguments a device's block of the kernel's result is its block of the reference's. -/
theorem out_agree (hp : Cert.Pre_KernelIdeal_finite_and_routed_KernelIdeal m) :
    outAt (F := Ideal) m ρ c = Layout.block ⟨2, ![256, 256]⟩ ⟨2, ![8192, 256]⟩ 0 32 c (Cert.ReferenceIdeal.Value.res_main_v43 m' 0) := by
  obtain ⟨hx, hw, hi⟩ := accepted _ _ _ _ (hp c)
  funext i
  obtain ⟨r, h, rfl⟩ : ∃ (r h : Fin 256), i = ix2 r h := ⟨i 0, i 1, eq_ix2 i⟩
  have hblk : Layout.block ⟨2, ![256, 256]⟩ ⟨2, ![8192, 256]⟩ 0 32 c (Cert.ReferenceIdeal.Value.res_main_v43 m' 0) (h := by decide) (ix2 r h)
      = Cert.ReferenceIdeal.Value.res_main_v43 m' 0 (ix2 (rowOf c r) h) := by
    show Cert.ReferenceIdeal.Value.res_main_v43 m' 0 _ = _
    congr 1
    funext a
    refine Fin.ext ?_
    match a with
    | ⟨0, _⟩ => rfl
    | ⟨1, _⟩ => rfl
  obtain ⟨i0, h0⟩ := hi (ix2 r 0)
  obtain ⟨i1, h1⟩ := hi (ix2 r 1)
  have h0' : istg (F := Ideal) m ρ c (ix2 r 0) = BitVec.ofNat 32 i0.val := by rw [istg_eq]; exact h0
  have h1' : istg (F := Ideal) m ρ c (ix2 r 1) = BitVec.ofNat 32 i1.val := by rw [istg_eq]; exact h1
  have hs : ∀ e, IsReal (Ref.score m' 0 (rowOf c r) e) := by
    intro e
    rw [← score_agree ρ hc c r]
    refine isReal_sum _ _ fun k _ => IsReal.mul ?_ ?_
    · rw [xstg_eq]; exact hx _
    · rw [rstg_eq]; exact hw _
  rw [hblk, outAt_apply m ρ c r h h0' h1',
    Ref.res_apply m' 0 (rowOf c r) h ((pick_agree ρ hc c r 0).symm.trans h0') ((pick_agree ρ hc c r 1).symm.trans h1'),
    score_agree ρ hc c r]
  simp only [tok_agree ρ hc c, mat_agree ρ hc]
  exact mix_eq _ (fun e => isPos_prob _ hs e) i0 i1 _ (fun e d => Ref.mat m' 0 e d h)

end Agree

/-- The kernel computes the reference's result, over the extended reals, on accepted arguments. -/
theorem algebraic : Cert.algebraic_KernelIdeal_ReferenceIdeal_pre_finite_and_routed_KernelIdeal := by
  intro m g m' g' hp hc
  refine ⟨Cert.ReferenceIdeal.Value.res_main_v43 m' 0, ?_, ?_⟩
  · exact (θ_run defs _ _).mono (fun _ h c => ⟨((h.1 c (4 : Fin 5)).trans (finalA_4 m g c)).trans (out_agree g hc c hp),
      (h.1 c (0 : Fin 5)).trans (finalA_0 m g c), (h.1 c (1 : Fin 5)).trans (finalA_1 m g c),
      (h.1 c (2 : Fin 5)).trans (finalA_2 m g c), (h.1 c (3 : Fin 5)).trans (finalA_3 m g c)⟩) (run_main m g)
  · exact (θ_run Cert.ReferenceIdeal.defs _ _).mono (fun _ h => h 0) (Cert.ReferenceIdeal.Value.run (F := Ideal) m' g')

end Cert.MoeProof

end
-- ==== Proof.lean ====
/-
The certificate's claims, put together: the frames of the kernel, of its idealization and of the reference; that the
idealization applied no rewrite; and that the idealized kernel computes the reference's result on accepted arguments.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.MoeProof.preFacts, Cert.MoeProof.preFactsWhole,
    Cert.MoeProof.frame_kernel, Cert.MoeProof.frame_kernelIdeal, fun m g _ => Cert.MoeProof.frame_kernelIdeal m g trivial,
    Cert.MoeProof.frame_reference, fun m g _ => Cert.MoeProof.frame_reference m g trivial, trivial,
    Cert.MoeProof.algebraic⟩

end Cert.Proof

end
